-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S4096 : Shape := ⟨1, ![4096]⟩
abbrev S4096x128 : Shape := ⟨2, ![4096, 128]⟩
abbrev S1000x128 : Shape := ⟨2, ![1000, 128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S4096x128 .f32) (main_arg2 : FVec F S1000x128 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 1000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S4096x128 : Shape := ⟨2, ![4096, 128]⟩
abbrev S1000x128 : Shape := ⟨2, ![1000, 128]⟩
abbrev S32x16 : Shape := ⟨2, ![32, 16]⟩
abbrev S128 : Shape := ⟨1, ![128]⟩
abbrev S128x128 : Shape := ⟨2, ![128, 128]⟩
abbrev S16 : Shape := ⟨1, ![16]⟩
abbrev S_ : Shape := ⟨0, ![]⟩
abbrev S1 : Shape := ⟨1, ![1]⟩
abbrev S1x16 : Shape := ⟨2, ![1, 16]⟩

abbrev nBuf : Table → Nat
  | .hbm => 8
  | .local .scVector .vmem => 4
  | _ => 0

abbrev bufTy : (tb : Table) → Fin (nBuf tb) → BufTy
  | .hbm, ⟨0, _⟩ => ⟨S4096, .i32⟩
  | .hbm, ⟨1, _⟩ => ⟨S4096x128, .f32⟩
  | .hbm, ⟨2, _⟩ => ⟨S1000x128, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local .scVector .vmem, ⟨0, _⟩ => ⟨S128, .i32⟩
  | .local .scVector .vmem, ⟨1, _⟩ => ⟨S128x128, .f32⟩
  | .local .scVector .vmem, ⟨2, _⟩ => ⟨S128x128, .f32⟩
  | .local .scVector .vmem, ⟨3, _⟩ => ⟨S16, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  ![v2.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_22 : BitVec 32 := 0#32
  let c128_i32_23 : BitVec 32 := 128#32
  let v25 : BitVec 32 := Scalar.addi c0_i32_22 c128_i32_23
  let c1_i32 : BitVec 32 := 1#32
  ⟨c0_i32_22, v25, c1_i32⟩
def k0_off3 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v39 : Index := Scalar.indexCast v38
  let c0_27 : Index := 0#32
  ![v39.toNat, 0]
def k0_off4 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v48 : Index := Scalar.indexCast v38
  let c16 : Index := 16#32
  ![v48.toNat, 16]
def k0_off5 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v57 : Index := Scalar.indexCast v38
  let c32 : Index := 32#32
  ![v57.toNat, 32]
def k0_off6 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v66 : Index := Scalar.indexCast v38
  let c48 : Index := 48#32
  ![v66.toNat, 48]
def k0_off7 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v75 : Index := Scalar.indexCast v38
  let c64 : Index := 64#32
  ![v75.toNat, 64]
def k0_off8 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v84 : Index := Scalar.indexCast v38
  let c80 : Index := 80#32
  ![v84.toNat, 80]
def k0_off9 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v93 : Index := Scalar.indexCast v38
  let c96 : Index := 96#32
  ![v93.toNat, 96]
def k0_off10 (k0_t1 : Fin k0_t1_loop.trips) : Fin 2 → Nat :=
  let c0_i32_26 : BitVec 32 := 0#32
  let c0_i32_22 : BitVec 32 := 0#32
  let c1_i32 : BitVec 32 := 1#32
  let arg12 : BitVec 32 := Scf.iv c0_i32_22 c1_i32 k0_t1
  let c1_i32_25 : BitVec 32 := 1#32
  let v37 : BitVec 32 := Scalar.muli arg12 c1_i32_25
  let v38 : BitVec 32 := Scalar.addi c0_i32_26 v37
  let v102 : Index := Scalar.indexCast v38
  let c112 : Index := 112#32
  ![v102.toNat, 112]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_25_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096 : Shape := ⟨1, ![4096]⟩
abbrev S4096x128 : Shape := ⟨2, ![4096, 128]⟩
abbrev S1000x128 : Shape := ⟨2, ![1000, 128]⟩
abbrev S_ : Shape := ⟨0, ![]⟩
abbrev S4096x1 : Shape := ⟨2, ![4096, 1]⟩
abbrev S1 : Shape := ⟨1, ![1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x128, .f32⟩
  | .hbm, ⟨2, _⟩ => ⟨S1000x128, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x128, .f32⟩
  | .hbm, ⟨22, _⟩ => ⟨S4096x128, .i1⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩

abbrev nD : Nat := 1
abbrev τ : Topo := Topo.v7x

variable {F : FTy → Type} [FloatOps F]
-- ==== Proof.Pre.lean ====
/-
  The precondition as a statement about the labels: the predicate's array of ones says that every label, read as an
  unsigned number, is below 1000.
-/
module

public import proofs.«01_k».proof.Defs
public import proofs.«01_k».proof.Proof.Gen.Pre_labels_in_range
import Idealize.ShloMosaic.Lib.ReduceAll
import Idealize.ShloMosaic.Lib.WordCmp
import Idealize.ShloMosaic.Lib.IdealHost

@[expose] public section

noncomputable section

namespace Cert.Proof.Center

open Idealize.ShloMosaic

/-- A word that is at least 0 and below 1000 as a signed number is below 1000 as an unsigned one, and conversely. -/
theorem word_range (v : BitVec 32) : IntOp.andi (IntOp.cmpi .sge v 0#32) (IntOp.cmpi .slt v 1000#32) = 1#1 ↔ v.toNat < 1000 := by
  word_cmp

/-- Where the predicate holds, every label is below 1000. -/
theorem label_lt {F : FTy → Type} [FloatOps F] (y : IVec Cert.Pre_labels_in_range.S4096 32)
    (f : FVec F Cert.Pre_labels_in_range.S4096x128 .f32) (c : FVec F Cert.Pre_labels_in_range.S1000x128 .f32)
    (h : Cert.Pre_labels_in_range.fn y f c = fun _ => 1#1) (j : Cert.Pre_labels_in_range.S4096.Idx) : (y j).toNat < 1000 := by
  have : Subsingleton Cert.Pre_labels_in_range.S_.Idx := ⟨fun a b => funext fun i => i.elim0⟩
  have h0 := congrFun h (fun i => i.elim0)
  unfold Cert.Pre_labels_in_range.fn at h0
  have hj := Host.reduce_andi_all _ _ _ _ _ h0 j
  refine (word_range (y j)).1 ?_
  rw [← hj]
  simp only [andi, cmpi, ValueIdx.broadcastInDim_scalar_apply]
  rfl

end Cert.Proof.Center

end
-- ==== Proof.Setup.lean ====
/-
  What the launch is made of. The kernel runs as 32 tasks, one per vector subcore; task `w` reads rows `128 w` to
  `128 w + 127` of the labels and of the features, the rows of the centers its labels name, and writes row `w` of the
  array of partial sums. This module fixes the names of the arrays, the read shares each task is given, the value a
  task leaves in its row, and the resources that travel with the call.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on sixteen subcores of each SparseCore. -/
theorem nSub_zero : (K (F := F)).nSub 0 = 16 := rfl
/-- The call runs on two SparseCores. -/
theorem nCore_zero : (K (F := F)).nCore 0 = 2 := rfl

/-- The call's own semaphores are distinct and unscoped, and no array of a sequencer's is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- Labels, features, centers, partial sums. -/
abbrev yLoc (d : Dev nD) : Loc nD τ sig := (SparseCore.T d).loc main_arg0
abbrev fLoc (d : Dev nD) : Loc nD τ sig := (SparseCore.T d).loc main_arg1
abbrev cLoc (d : Dev nD) : Loc nD τ sig := (SparseCore.T d).loc main_arg2
abbrev pLoc (d : Dev nD) : Loc nD τ sig := (SparseCore.T d).loc main_v0

/-- What the proof asks of the launch memory: every label names a row of the centers. -/
def Labels : Prop := ∀ (d : Dev nD) (j : S4096.Idx), (m (yLoc d) j).toNat < 1000

/-! ## Positions -/

abbrev ixY (r : Fin 4096) : S4096.Idx := fun | 0 => r
abbrev ixF (r : Fin 4096) (c : Fin 128) : S4096x128.Idx := fun | 0 => r | 1 => c
abbrev ixC (r : Fin 1000) (c : Fin 128) : S1000x128.Idx := fun | 0 => r | 1 => c
abbrev ixB (r c : Fin 128) : S128x128.Idx := fun | 0 => r | 1 => c
abbrev ixP (w : Fin 32) (l : Fin 16) : S32x16.Idx := fun | 0 => w | 1 => l

/-- Row `n` of task `w`'s slice of the labels and of the features. -/
def rowOf (w : Fin 32) (n : Fin 128) : Fin 4096 := ⟨128 * w.val + n.val, by have := w.isLt; have := n.isLt; omega⟩
/-- Lane `l` of column group `c`. -/
def colOf (c : Fin 8) (l : Fin 16) : Fin 128 := ⟨16 * c.val + l.val, by have := c.isLt; have := l.isLt; omega⟩
/-- The task on subcore `i` of SparseCore `c`. -/
def taskOf (c : Fin 2) (i : Fin 16) : Fin 32 := ⟨2 * i.val + c.val, by have := c.isLt; have := i.isLt; omega⟩

/-! ## What a task computes -/

/-- Task `w`'s rows of the features, and the rows of the centers its labels name, each as a 128 × 128 block. -/
def featBlk (d : Dev nD) (w : Fin 32) : S128x128.Idx → Elt F .f32 := fun i => m (fLoc d) (ixF (rowOf w (i 0)) (i 1))
/-- The rows of the centers that the labels of task `w` name, as a 128 × 128 block. -/
def cenBlk (d : Dev nD) (w : Fin 32) : S128x128.Idx → Elt F .f32 := fun i =>
  m (cLoc d) (ixC ⟨(m (yLoc d) (ixY (rowOf w (i 0)))).toNat % 1000, Nat.mod_lt _ (by decide)⟩ (i 1))

/-- Sixteen lanes of row `n` of a block, those of column group `c`. -/
def lanes (f : S128x128.Idx → Elt F .f32) (n : Fin 128) (c : Fin 8) : FVec F S16 .f32 := fun l => f (ixB n (colOf c (l 0)))

variable [FloatOps F]

/-- The accumulator of column group `c` after `n` rows: the squared differences of the rows so far, lane by lane, in
    row order from zero. -/
def accum (f g : S128x128.Idx → Elt F .f32) (c : Fin 8) : ℕ → FVec F S16 .f32
  | 0 => k0_pay10
  | n + 1 => if h : n < 128 then
      addf (accum f g c n) (mulf (subf (lanes f ⟨n, h⟩ c) (lanes g ⟨n, h⟩ c)) (subf (lanes f ⟨n, h⟩ c) (lanes g ⟨n, h⟩ c)))
    else accum f g c n

/-- The eight accumulators after `n` rows. -/
def accums (f g : S128x128.Idx → Elt F .f32) (n : ℕ) :
    FVec F S16 .f32 × FVec F S16 .f32 × FVec F S16 .f32 × FVec F S16 .f32 × FVec F S16 .f32 × FVec F S16 .f32 × FVec F S16 .f32 × FVec F S16 .f32 :=
  (accum f g 0 n, accum f g 1 n, accum f g 2 n, accum f g 3 n, accum f g 4 n, accum f g 5 n, accum f g 6 n, accum f g 7 n)

/-- The sixteen lanes a task stores: its eight accumulators after all 128 rows, added pairwise. -/
def laneSums (f g : S128x128.Idx → Elt F .f32) : FVec F S16 .f32 :=
  k0_pay4 (accum f g 0 128) (accum f g 1 128) (accum f g 2 128) (accum f g 3 128)
    (accum f g 4 128) (accum f g 5 128) (accum f g 6 128) (accum f g 7 128)

/-- The whole array of partial sums when every task is done: row `w` is task `w`'s sixteen lanes. -/
def partials (d : Dev nD) : Buf (Elt F) (pLoc d) := fun (i : S32x16.Idx) =>
  laneSums (featBlk m d (i 0)) (cenBlk m d (i 0)) (fun | 0 => i 1)

/-! ## What travels with the call -/

/-- The rows of the partial sums divide evenly among the 32 tasks. -/
theorem pdiv : 32 ∣ S32x16.size 0 := ⟨1, rfl⟩
/-- Row `w` of the partial sums, as a box and as a set of positions. -/
abbrev prow (w : Fin 32) : Rect S32x16 := Rect.part (s := S32x16) (a₀ := 0) pdiv w
abbrev pRowSet (w : Fin 32) : Finset S32x16.Idx :=
  ((Memref.whole Cert.KernelIdeal.main_v0_scv : Memref Cert.KernelIdeal.sig Kind.scVector Space.hbm Cert.KernelIdeal.S32x16 EltTy.f32).view.slice (prow w)).set

/-- Task `w`'s read share of an array all the tasks read. -/
abbrev tok (w : Fin 32) : PosShare TreeShare := Transfers.shareTok fullShare 32 w

abbrev yTok (d : Dev nD) (w : Fin 32) : sProp 𝕄 := yLoc d ↦{tok w} m (yLoc d)
abbrev fTok (d : Dev nD) (w : Fin 32) : sProp 𝕄 := fLoc d ↦{tok w} m (fLoc d)
abbrev cTok (d : Dev nD) (w : Fin 32) : sProp 𝕄 := cLoc d ↦{tok w} m (cLoc d)
abbrev pRow (d : Dev nD) (w : Fin 32) (f : Buf (Elt F) (pLoc d)) : sProp 𝕄 := pLoc d ↦[pRowSet w]{fullShare} f

/-- What task `w` holds besides its scratch, its row of the partial sums at the contents `f`. -/
abbrev piece (d : Dev nD) (w : Fin 32) (f : Buf (Elt F) (pLoc d)) : sProp 𝕄 :=
  iprop(yTok m d w ∗ fTok m d w ∗ cTok m d w ∗ pRow d w f)

/-- The task a SparseCore's index and a subcore's index name. -/
abbrev taskAt (c : Fin ((K (F := F)).nCore 0)) (i : Fin ((K (F := F)).nSub 0)) : Fin 32 :=
  taskOf (Fin.cast nCore_zero c) (Fin.cast nSub_zero i)

/-- Each task is given the three read shares and its row of the partial sums as launched, and returns them with the row
    at its lane sums; a SparseCore carries exactly what its sixteen tasks do. -/
def P : (K (F := F)).Pay (nD := nD) (Val := Elt F) (Name := ℕ) (U := UU) where
  st := fun q d c => match q with | 0 => bigSep Finset.univ fun i => piece m d (taskAt (F := F) c i) (m (pLoc d))
  dn := fun q d c => match q with | 0 => bigSep Finset.univ fun i => piece m d (taskAt (F := F) c i) (partials m d)
  go := fun q d c i => match q with | 0 => piece m d (taskAt (F := F) c i) (m (pLoc d))
  td := fun q d c i => match q with | 0 => piece m d (taskAt (F := F) c i) (partials m d)
  x := fun _ _ => iprop(emp)

/-- What travels with the call may be kept in an invariant. -/
instance P_storable : (P (F := F) m).IsStorable where
  st q d c := match q with
    | 0 => (inferInstance : BI.Storable (upEmb : UEmb _ 𝕄) (bigSep Finset.univ fun i => piece m d (taskAt (F := F) c i) (m (pLoc d))))
  dn q d c := match q with
    | 0 => (inferInstance : BI.Storable (upEmb : UEmb _ 𝕄) (bigSep Finset.univ fun i => piece m d (taskAt (F := F) c i) (partials m d)))
  go q d c i := match q with
    | 0 => (inferInstance : BI.Storable (upEmb : UEmb _ 𝕄) (piece m d (taskAt (F := F) c i) (m (pLoc d))))
  td q d c i := match q with
    | 0 => (inferInstance : BI.Storable (upEmb : UEmb _ 𝕄) (piece m d (taskAt (F := F) c i) (partials m d)))

/-- What a SparseCore is given is its tasks' pieces, and what they return is what it returns. -/
theorem vecSplit : (K (F := F)).VecSplit' (P m) 0 := by
  intro d c
  show (bigSep Finset.univ fun i => piece m d (taskAt (F := F) c i) (m (pLoc d))) ⊢ |={Set.univ}=> iprop(
      (bigSep Finset.univ fun i => piece m d (taskAt (F := F) c i) (m (pLoc d)))
      ∗ ((bigSep Finset.univ fun i => piece m d (taskAt (F := F) c i) (partials m d))
          -∗ bigSep Finset.univ fun i => piece m d (taskAt (F := F) c i) (partials m d)))
  iintro H; imodintro
  isplitl [H]; · iexact H
  iintro H; iexact H

end Cert.Proof.Center

end
-- ==== Proof.Task.lean ====
/-
  Pieces of one task: the slices and semaphores its body names, the fact that every label it copied names a row of the
  centers, and one trip of its loop.
-/
module

public import proofs.«01_k».proof.Proof.Setup

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_arg0_scv : Memref Cert.KernelIdeal.sig Kind.scVector Space.hbm Cert.KernelIdeal.S4096 EltTy.i32)
local notation "fV" => (Memref.whole Cert.KernelIdeal.main_arg1_scv : Memref Cert.KernelIdeal.sig Kind.scVector Space.hbm Cert.KernelIdeal.S4096x128 EltTy.f32)
local notation "cV" => (Memref.whole Cert.KernelIdeal.main_arg2_scv : Memref Cert.KernelIdeal.sig Kind.scVector Space.hbm Cert.KernelIdeal.S1000x128 EltTy.f32)
local notation "pV" => (Memref.whole Cert.KernelIdeal.main_v0_scv : Memref Cert.KernelIdeal.sig Kind.scVector Space.hbm Cert.KernelIdeal.S32x16 EltTy.f32)
local notation "iB" => (Memref.whole Cert.KernelIdeal.cc0_scratch0 : Memref Cert.KernelIdeal.sig Kind.scVector Space.vmem Cert.KernelIdeal.S128 EltTy.i32)
local notation "cB" => (Memref.whole Cert.KernelIdeal.cc0_scratch1 : Memref Cert.KernelIdeal.sig Kind.scVector Space.vmem Cert.KernelIdeal.S128x128 EltTy.f32)
local notation "fB" => (Memref.whole Cert.KernelIdeal.cc0_scratch2 : Memref Cert.KernelIdeal.sig Kind.scVector Space.vmem Cert.KernelIdeal.S128x128 EltTy.f32)
local notation "sB" => (Memref.whole Cert.KernelIdeal.cc0_scratch3 : Memref Cert.KernelIdeal.sig Kind.scVector Space.vmem Cert.KernelIdeal.S16 EltTy.f32)

variable (m : (ℓ : Loc nD τ sig) → Buf (Elt F) ℓ)
variable [FloatOps F]

section Task

variable (d : Dev nD) (L : grid0.Coords)

abbrev coreOf (L : grid0.Coords) : Fin τ.nSC := (L 0).castLE hcore0
abbrev subOf (L : grid0.Coords) : Fin τ.nSub := (L 1).castLE hsub0
abbrev thr (d : Dev nD) (L : grid0.Coords) : Thread nD τ := V d (coreOf L) (subOf L)
/-- The grid has two SparseCores. -/
theorem bound_zero : grid0.bound 0 = 2 := rfl
/-- The grid has sixteen subcores. -/
theorem bound_one : grid0.bound 1 = 16 := rfl
/-- The task at the grid point `L`. -/
abbrev wid (L : grid0.Coords) : Fin 32 := taskOf (Fin.cast bound_zero (L 0)) (Fin.cast bound_one (L 1))

/-- Row `wid L` of the partial sums, as the body addresses it: sixteen lanes. -/
abbrev pRect (L : grid0.Coords) : Rect S32x16 := Rect.unit (s := S32x16) (k0_off11 L) S1x16.size (k0_off11_inb L)
abbrev pOut (L : grid0.Coords) : Memref sig .scVector .hbm S16 .f32 := ((pV).slice (pRect L) (fun _ => rfl)).squeeze S16 squeezes_S1x16_S16
/-- The task's slices of the features and of the labels, as the body addresses them. -/
abbrev fSl (L : grid0.Coords) : Memref sig .scVector .hbm S128x128 .f32 :=
  (fV).slice (Rect.unit (s := S4096x128) (k0_off1 L) S128x128.size (k0_off1_inb L)) (fun _ => rfl)
abbrev ySl (L : grid0.Coords) : Memref sig .scVector .hbm S128 .i32 :=
  (yV).slice (Rect.unit (s := S4096) (k0_off2 L) S128.size (k0_off2_inb L)) (fun _ => rfl)

/-- The labels the task copied, as the transfer carries them. -/
abbrev labs : S128.Idx → Elt F .i32 := ReadAs.same.apply ((ySl L).view.read (Elt F) (m (yLoc d)))

/-- The four transfers' semaphores at zero. -/
abbrev dsem (k : Nat) (hk : k < 4 := by decide) : DmaSem sig := ⟨k, hk⟩
abbrev sems0 (d : Dev nD) (L : grid0.Coords) : sProp 𝕄 :=
  iprop(semVal (thr d L, SemLoc.dma (dsem 0)) 0 ∗ semVal (thr d L, SemLoc.dma (dsem 1)) 0
    ∗ semVal (thr d L, SemLoc.dma (dsem 2)) 0 ∗ semVal (thr d L, SemLoc.dma (dsem 3)) 0)

/-- Every label the task copied names a row of the centers. -/
theorem labs_inb (h : Labels m) (g0 : Buf (Elt F) ((iB).view.loc (thr d L))) (pay : S128.Idx → Elt F .i32) (hpay : pay = labs m d L) :
    ∀ x, (View.read (Elt F) ((iB).slice (Rect.unit (s := S128) ![0] S128.size inb_S128_S128_0) (fun _ => rfl)).view
      ((iB).view.write (Elt F) g0 pay Finset.univ) x).toNat < 1000 := by
  subst hpay; intro x
  have e : View.read (Elt F) ((iB).slice (Rect.unit (s := S128) ![0] S128.size inb_S128_S128_0) (fun _ => rfl)).view
        ((iB).view.write (Elt F) g0 (labs m d L) Finset.univ) x
      = View.read (Elt F) (iB).view ((iB).view.write (Elt F) g0 (labs m d L) Finset.univ)
          ((Rect.unit (s := S128) ![0] S128.size inb_S128_S128_0).emb x) := by
    rw [View.read_apply, View.read_apply]; rfl
  rw [e, View.read_write_univ]
  show ((ySl L).view.read (Elt F) (m (yLoc d)) _).toNat < 1000
  rw [View.read_apply]
  exact h d _

/-! ### One trip of the loop -/

/-- Taking a 1 × 16 row as sixteen lanes keeps the lane. -/
theorem reshape_lane : ∀ l : S16.Idx, (((Shape.reshapeEquiv (s := S1x16) (s' := S16) shapeCasts_S1x16_S16) l) 1).val = (l 0).val := by
  decide +kernel

/-- A load of sixteen lanes of the features' block at row `n`, column group `c`. -/
theorem load_feat (f : S128x128.Idx → Elt F .f32) (off : Fin 2 → Nat) (n : Fin 128) (c : Fin 8) (ho : off = ![n.val, 16 * c.val])
    (hk : ∀ a, off a + S1x16.size a ≤ S128x128.size a) :
    shapeCast S16 ((fB).view.readAt (Elt F) (Rect.unit (s := S128x128) off S1x16.size hk).toLoadRect f) shapeCasts_S1x16_S16 = lanes f n c := by
  subst ho; funext l
  show (fB).view.readAt (Elt F) _ f _ = f _
  rw [View.readAt_apply]
  show f _ = f _
  congr 1; funext a
  match a with
  | 0 => apply Fin.ext; show n.val + 1 * _ = n.val; simp; decide +revert
  | 1 => apply Fin.ext; show 16 * c.val + 1 * _ = 16 * c.val + (l 0).val; rw [Nat.one_mul]; congr 1; exact reshape_lane l
/-- A load of sixteen lanes of the gathered centers at row `n`, column group `c`. -/
theorem load_cen (f : S128x128.Idx → Elt F .f32) (off : Fin 2 → Nat) (n : Fin 128) (c : Fin 8) (ho : off = ![n.val, 16 * c.val])
    (hk : ∀ a, off a + S1x16.size a ≤ S128x128.size a) :
    shapeCast S16 ((cB).view.readAt (Elt F) (Rect.unit (s := S128x128) off S1x16.size hk).toLoadRect f) shapeCasts_S1x16_S16 = lanes f n c := by
  subst ho; funext l
  show (cB).view.readAt (Elt F) _ f _ = f _
  rw [View.readAt_apply]
  show f _ = f _
  congr 1; funext a
  match a with
  | 0 => apply Fin.ext; show n.val + 1 * _ = n.val; simp; decide +revert
  | 1 => apply Fin.ext; show 16 * c.val + 1 * _ = 16 * c.val + (l 0).val; rw [Nat.one_mul]; congr 1; exact reshape_lane l

/-- The loop over the rows makes 128 trips. -/
theorem trips_eq : k0_t1_loop.trips = 128 := by decide

/-- Adding the square of one row's difference is the next accumulator. -/
theorem accum_step (f g : S128x128.Idx → Elt F .f32) (c : Fin 8) (k : Fin k0_t1_loop.trips) (off : Fin 2 → Nat)
    (ho : off = ![k.val, 16 * c.val]) (hk hk' : ∀ a, off a + S1x16.size a ≤ S128x128.size a) :
    addf (accum f g c k.val)
      (mulf (subf (shapeCast S16 ((fB).view.readAt (Elt F) (Rect.unit (s := S128x128) off S1x16.size hk).toLoadRect f) shapeCasts_S1x16_S16)
          (shapeCast S16 ((cB).view.readAt (Elt F) (Rect.unit (s := S128x128) off S1x16.size hk').toLoadRect g) shapeCasts_S1x16_S16))
        (subf (shapeCast S16 ((fB).view.readAt (Elt F) (Rect.unit (s := S128x128) off S1x16.size hk).toLoadRect f) shapeCasts_S1x16_S16)
          (shapeCast S16 ((cB).view.readAt (Elt F) (Rect.unit (s := S128x128) off S1x16.size hk').toLoadRect g) shapeCasts_S1x16_S16)))
      = accum f g c (k.val + 1) := by
  have hlt : k.val < 128 := trips_eq ▸ k.isLt
  rw [load_feat f off ⟨k.val, hlt⟩ c ho hk, load_cen g off ⟨k.val, hlt⟩ c ho hk', accum, dif_pos hlt]

/-- The loop's invariant: before trip `n` the accumulators are those of the first `n` rows. -/
def inv (f : Buf (Elt F) ((fB).view.loc (thr d L))) (g : Buf (Elt F) ((cB).view.loc (thr d L))) (n : Nat)
    (a : FVec F S16 .f32 × FVec F S16 .f32 × FVec F S16 .f32 × FVec F S16 .f32 × FVec F S16 .f32 × FVec F S16 .f32 × FVec F S16 .f32 × FVec F S16 .f32) :
    sProp 𝕄 :=
  iprop(⌜a = accums f g n⌝ ∗ ((cB).view.loc (thr d L) ↦{fullShare} g) ∗ ((fB).view.loc (thr d L) ↦{fullShare} f))

/-- One trip takes the accumulators of `k` rows to those of `k + 1` rows. -/
theorem trip (f : Buf (Elt F) ((fB).view.loc (thr d L))) (g : Buf (Elt F) ((cB).view.loc (thr d L))) (k : Fin k0_t1_loop.trips)
    (a : FVec F S16 .f32 × FVec F S16 .f32 × FVec F S16 .f32 × FVec F S16 .f32 × FVec F S16 .f32 × FVec F S16 .f32 × FVec F S16 .f32 × FVec F S16 .f32) :
    inv d L f g k.val a
      ⊢ wp frame (wpE (defs₀ (F := F)) 𝒱₀ (thr d L) none) Set.univ
          (k0_t1_body L yV (Memref.isWhole_whole _) fV (Memref.isWhole_whole _) cV (Memref.isWhole_whole _)
            pV (Memref.isWhole_whole _) iB (Memref.isWhole_whole _) cB (Memref.isWhole_whole _) fB (Memref.isWhole_whole _)
            sB (Memref.isWhole_whole _) cc0_scratch4 cc0_scratch5 cc0_scoped0 cc0_scoped1 k a)
          fun a' => inv d L f g (k.val + 1) a' := by
  unfold inv
  iintro ⟨%ha, HCB, HFB⟩
  subst ha
  unfold accums k0_t1_body
  sl_exec
  sl_step
  isplitr
  · ipureintro
    refine Prod.ext ?_ (Prod.ext ?_ (Prod.ext ?_ (Prod.ext ?_ (Prod.ext ?_ (Prod.ext ?_ (Prod.ext ?_ ?_))))))
    · exact accum_step f g 0 k (k0_off3 k) (k0_off3_eq k) (k0_off3_inb k) (k0_off3_inb k)
    · exact accum_step f g 1 k (k0_off4 k) (k0_off4_eq k) (k0_off4_inb k) (k0_off4_inb k)
    · exact accum_step f g 2 k (k0_off5 k) (k0_off5_eq k) (k0_off5_inb k) (k0_off5_inb k)
    · exact accum_step f g 3 k (k0_off6 k) (k0_off6_eq k) (k0_off6_inb k) (k0_off6_inb k)
    · exact accum_step f g 4 k (k0_off7 k) (k0_off7_eq k) (k0_off7_inb k) (k0_off7_inb k)
    · exact accum_step f g 5 k (k0_off8 k) (k0_off8_eq k) (k0_off8_inb k) (k0_off8_inb k)
    · exact accum_step f g 6 k (k0_off9 k) (k0_off9_eq k) (k0_off9_inb k) (k0_off9_inb k)
    · exact accum_step f g 7 k (k0_off10 k) (k0_off10_eq k) (k0_off10_inb k) (k0_off10_inb k)
  isplitl [HCB] <;> iassumption

end Task

end Cert.Proof.Center

end
-- ==== Proof.Landed.lean ====
/-
  What a task's copies leave where they land: its block of features, its block of gathered centers, and its row of the
  partial sums, each as the plain function of the launch memory that Setup names.
-/
module

public import proofs.«01_k».proof.Proof.Task

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_arg0_scv : Memref Cert.KernelIdeal.sig Kind.scVector Space.hbm Cert.KernelIdeal.S4096 EltTy.i32)
local notation "fV" => (Memref.whole Cert.KernelIdeal.main_arg1_scv : Memref Cert.KernelIdeal.sig Kind.scVector Space.hbm Cert.KernelIdeal.S4096x128 EltTy.f32)
local notation "cV" => (Memref.whole Cert.KernelIdeal.main_arg2_scv : Memref Cert.KernelIdeal.sig Kind.scVector Space.hbm Cert.KernelIdeal.S1000x128 EltTy.f32)
local notation "pV" => (Memref.whole Cert.KernelIdeal.main_v0_scv : Memref Cert.KernelIdeal.sig Kind.scVector Space.hbm Cert.KernelIdeal.S32x16 EltTy.f32)
local notation "iB" => (Memref.whole Cert.KernelIdeal.cc0_scratch0 : Memref Cert.KernelIdeal.sig Kind.scVector Space.vmem Cert.KernelIdeal.S128 EltTy.i32)
local notation "cB" => (Memref.whole Cert.KernelIdeal.cc0_scratch1 : Memref Cert.KernelIdeal.sig Kind.scVector Space.vmem Cert.KernelIdeal.S128x128 EltTy.f32)
local notation "fB" => (Memref.whole Cert.KernelIdeal.cc0_scratch2 : Memref Cert.KernelIdeal.sig Kind.scVector Space.vmem Cert.KernelIdeal.S128x128 EltTy.f32)
local notation "sB" => (Memref.whole Cert.KernelIdeal.cc0_scratch3 : Memref Cert.KernelIdeal.sig Kind.scVector Space.vmem Cert.KernelIdeal.S16 EltTy.f32)

variable (m : (ℓ : Loc nD τ sig) → Buf (Elt F) ℓ)
variable [FloatOps F]

section Task

variable (d : Dev nD) (L : grid0.Coords)

/-- The features' copy lands the task's 128 rows. -/
theorem feat_landed (g2 : Buf (Elt F) ((fB).view.loc (thr d L))) (pay : S128x128.Idx → Elt F .f32)
    (hpay : pay = ReadAs.same.apply ((fSl L).view.read (Elt F) (m (fLoc d)))) :
    View.write (Elt F) (fB).view g2 pay Finset.univ = featBlk m d (wid L) := by
  subst hpay
  refine (View.write_whole_univ _ _ _).trans ?_
  funext i
  show (fSl L).view.read (Elt F) (m (fLoc d)) i = _
  rw [View.read_apply]
  show m (fLoc d) _ = m (fLoc d) _
  congr 1; funext a
  match a with
  | 0 =>
    apply Fin.ext
    show k0_off1 L 0 + 1 * (i 0).val = 128 * (2 * (L 1).val + (L 0).val) + (i 0).val
    rw [k0_off1_eq]; show 256 * (L 1).val + 128 * (L 0).val + 1 * (i 0).val = _; omega
  | 1 =>
    apply Fin.ext
    show k0_off1 L 1 + 1 * (i 1).val = (i 1).val
    rw [k0_off1_eq]; show 0 + 1 * (i 1).val = _; omega

/-- The labels the task copied, one by one. -/
theorem labs_apply (x : S128.Idx) : labs m d L x = m (yLoc d) (ixY (rowOf (wid L) (x 0))) := by
  show (ySl L).view.read (Elt F) (m (yLoc d)) x = _
  rw [View.read_apply]
  show m (yLoc d) _ = m (yLoc d) _
  congr 1; funext a
  match a with
  | 0 =>
    apply Fin.ext
    show k0_off2 L 0 + 1 * (x 0).val = 128 * (2 * (L 1).val + (L 0).val) + (x 0).val
    rw [k0_off2_eq]; show 256 * (L 1).val + 128 * (L 0).val + 1 * (x 0).val = _; omega

/-- One store over the whole of the gathered rows' buffer leaves the stored rows. -/
theorem cen_whole (w : S128x128.Idx → Elt F .f32) :
    (cB).view.writes (Elt F) (cB).view.junk
      [⟨Rect.unit (s := S128x128) ![0, 0] S128x128.size inb_S128x128_S128x128_0_0, w⟩] = w := by
  funext i
  have hi : (Rect.unit (s := S128x128) ![0, 0] S128x128.size inb_S128x128_S128x128_0_0).emb i = i := by
    funext a
    match a with
    | 0 => apply Fin.ext; show 0 + 1 * (i 0).val = (i 0).val; omega
    | 1 => apply Fin.ext; show 0 + 1 * (i 1).val = (i 1).val; omega
  have hv := View.read_writes_cons_emb (v := (cB).view) (Val := Elt F) (f := (cB).view.junk)
    (Rect.unit (s := S128x128) ![0, 0] S128x128.size inb_S128x128_S128x128_0_0) w [] i
  rw [hi] at hv
  exact hv

/-- The gather of the rows `r` of the centers, element by element. -/
theorem cen_gathered (f : Buf (Elt F) (cLoc d)) (r : Fin 128 → Fin 1000) (i : S128x128.Idx) :
    SparseCore.gatherPayload gathers_S1000x128_S128x128
      (View.read (Elt F) ((cV).slice (Rect.unit (s := S1000x128) ![0, 0] S1000x128.size inb_S1000x128_S1000x128_0_0) (fun _ => rfl)).view f)
      r i = f (ixC (r (i 0)) (i 1)) := by
  unfold SparseCore.gatherPayload
  rw [View.read_apply]
  have e : ((cV).slice (Rect.unit (s := S1000x128) ![0, 0] S1000x128.size inb_S1000x128_S1000x128_0_0) (fun _ => rfl)).view.emb
      (gathers_S1000x128_S128x128.idx r i) = ixC (r (i 0)) (i 1) := by
    funext a
    match a with
    | 0 =>
      apply Fin.ext
      exact ((Nat.zero_add _).trans (Nat.one_mul _)).trans (congrArg Fin.val (Shape.Gathers.idx_axis gathers_S1000x128_S128x128 r i))
    | 1 =>
      apply Fin.ext
      exact ((Nat.zero_add _).trans (Nat.one_mul _)).trans (Shape.Gathers.idx_of_ne gathers_S1000x128_S128x128 r i 1 (by decide))
  exact congrArg f e

/-- The row the task's list of labels names at position `k`. -/
theorem row_val (g0 : Buf (Elt F) ((iB).view.loc (thr d L)))
    (hin : ∀ x, (View.read (Elt F) ((iB).slice (Rect.unit (s := S128) ![0] S128.size inb_S128_S128_0) (fun _ => rfl)).view
      ((iB).view.write (Elt F) g0 (labs m d L) Finset.univ) x).toNat < 1000) (k : Fin 128) :
    (SparseCore.rows (o := 128) (View.read (Elt F) ((iB).slice (Rect.unit (s := S128) ![0] S128.size inb_S128_S128_0) (fun _ => rfl)).view
      ((iB).view.write (Elt F) g0 (labs m d L) Finset.univ)) rfl hin k).val
      = (m (yLoc d) (ixY (rowOf (wid L) k))).toNat := by
  unfold SparseCore.rows
  show (View.read (Elt F) ((iB).slice (Rect.unit (s := S128) ![0] S128.size inb_S128_S128_0) (fun _ => rfl)).view
      ((iB).view.write (Elt F) g0 (labs m d L) Finset.univ) _).toNat = _
  rw [View.write_whole_univ]
  have hn : 128 = S128.numel := by decide
  obtain ⟨j, hj⟩ : ∃ j : S128.Idx, j = S128.rowMajor.symm (k.cast hn) := ⟨_, rfl⟩
  have hj0 : (j 0).val = k.val := by
    refine (Shape.rowMajor_val_one j).symm.trans ?_
    rw [hj, Equiv.apply_symm_apply]; rfl
  have e : ((iB).slice (Rect.unit (s := S128) ![0] S128.size inb_S128_S128_0) (fun _ => rfl)).view.emb j = j := by
    funext a
    match a with
    | 0 => apply Fin.ext; exact (Nat.zero_add _).trans (Nat.one_mul _)
  have hx : labs m d L (((iB).slice (Rect.unit (s := S128) ![0] S128.size inb_S128_S128_0) (fun _ => rfl)).view.emb
      (S128.rowMajor.symm (k.cast hn))) = m (yLoc d) (ixY (rowOf (wid L) k)) := by
    rw [← hj]
    refine (congrArg (labs m d L) e).trans ((labs_apply m d L j).trans ?_)
    rw [show j 0 = k from Fin.ext hj0]
  exact congrArg BitVec.toNat hx

/-- The gather lands the rows of the centers the task's labels name. -/
theorem cen_landed (h : Labels m) (g0 : Buf (Elt F) ((iB).view.loc (thr d L))) (pay : S128.Idx → Elt F .i32) (hpay : pay = labs m d L)
    (hin : ∀ x, (View.read (Elt F) ((iB).slice (Rect.unit (s := S128) ![0] S128.size inb_S128_S128_0) (fun _ => rfl)).view
      ((iB).view.write (Elt F) g0 pay Finset.univ) x).toNat < 1000) :
    (cB).view.writes (Elt F) (cB).view.junk
      [⟨Rect.unit (s := S128x128) ![0, 0] S128x128.size inb_S128x128_S128x128_0_0,
        SparseCore.gatherPayload gathers_S1000x128_S128x128
          (View.read (Elt F) ((cV).slice (Rect.unit (s := S1000x128) ![0, 0] S1000x128.size inb_S1000x128_S1000x128_0_0) (fun _ => rfl)).view
            (m (cLoc d)))
          (SparseCore.rows (View.read (Elt F) ((iB).slice (Rect.unit (s := S128) ![0] S128.size inb_S128_S128_0) (fun _ => rfl)).view
            ((iB).view.write (Elt F) g0 pay Finset.univ)) rfl hin)⟩]
      = cenBlk m d (wid L) := by
  subst hpay
  rw [cen_whole]
  funext i
  refine (cen_gathered d (m (cLoc d)) _ i).trans ?_
  refine congrArg (fun r => m (cLoc d) (ixC r (i 1))) (Fin.ext ?_)
  refine (row_val m d L g0 hin (i 0)).trans ?_
  exact (Nat.mod_eq_of_lt (h d _)).symm

/-- Lane `l` of the task's row, as a position of the partial sums. -/
theorem pOut_emb (l : S16.Idx) : (pOut L).view.emb l = ixP (wid L) (l 0) := by
  funext a
  match a with
  | 0 =>
    apply Fin.ext
    show k0_off11 L 0 + 1 * _ = 2 * (L 1).val + (L 0).val
    have h0 : ((Shape.reshapeEquiv (s := S1x16) (s' := S16) shapeCasts_S1x16_S16 l) 0).val < 1 := Fin.isLt _
    have e : k0_off11 L 0 = 2 * (L 1).val + (L 0).val := by rw [k0_off11_eq]; rfl
    rw [e, Nat.one_mul]
    exact congrArg (2 * (L 1).val + (L 0).val + ·) (Nat.lt_one_iff.mp h0)
  | 1 =>
    apply Fin.ext
    show k0_off11 L 1 + 1 * _ = (l 0).val
    have e : k0_off11 L 1 = 0 := by rw [k0_off11_eq]; rfl
    rw [e, Nat.one_mul, Nat.zero_add]
    exact reshape_lane l

/-- The last copy lands the task's row of the partial sums. -/
theorem row_landed (f0 : Buf (Elt F) (pLoc d)) (w : S16.Idx → Elt F .f32)
    (hw : w = laneSums (featBlk m d (wid L)) (cenBlk m d (wid L))) :
    ∀ p ∈ (pOut L).view.set, (pOut L).view.writes (Elt F) f0 [⟨Rect.whole S16, w⟩] p = partials m d p := by
  intro p hp
  obtain ⟨l, -, rfl⟩ := Finset.mem_map.mp hp
  have hr := congrFun (View.read_writes_whole (Val := Elt F) (pOut L).view f0 w) l
  refine Eq.trans (b := w l) hr ?_
  rw [hw, pOut_emb]
  show _ = laneSums _ _ _
  congr 1
  funext a
  match a with
  | 0 => rfl

/-- One store over the whole of the small buffer leaves the stored lanes, as the last copy reads them. -/
theorem sums_whole (g3 : Buf (Elt F) ((sB).view.loc (thr d L))) (w : S16.Idx → Elt F .f32) :
    View.read (Elt F) (sB).view ((sB).view.writes (Elt F) g3 [⟨Rect.unit (s := S16) ![0] S16.size inb_S16_S16_0, w⟩]) = w := by
  funext l
  have hl : (Rect.unit (s := S16) ![0] S16.size inb_S16_S16_0).emb l = l := by
    funext a
    match a with
    | 0 => apply Fin.ext; exact (Nat.zero_add _).trans (Nat.one_mul _)
  have hv := View.read_writes_cons_emb (v := (sB).view) (Val := Elt F) (f := g3)
    (Rect.unit (s := S16) ![0] S16.size inb_S16_S16_0) w [] l
  rw [hl] at hv
  exact hv

end Task

end Cert.Proof.Center

end
-- ==== Proof.Tile.lean ====
/-
  One task. It copies its slice of the features and of the labels into its own memory, gathers the rows of the centers
  its labels name, runs over the 128 rows adding up squared differences in eight accumulators of sixteen lanes, and
  copies their sum to its row of the partial sums. `tile_body` says that it ends, with its row at the value
  `Center.partials` names and everything else it was given unchanged.
-/
module

public import proofs.«01_k».proof.Proof.Landed

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_arg0_scv : Memref Cert.KernelIdeal.sig Kind.scVector Space.hbm Cert.KernelIdeal.S4096 EltTy.i32)
local notation "fV" => (Memref.whole Cert.KernelIdeal.main_arg1_scv : Memref Cert.KernelIdeal.sig Kind.scVector Space.hbm Cert.KernelIdeal.S4096x128 EltTy.f32)
local notation "cV" => (Memref.whole Cert.KernelIdeal.main_arg2_scv : Memref Cert.KernelIdeal.sig Kind.scVector Space.hbm Cert.KernelIdeal.S1000x128 EltTy.f32)
local notation "pV" => (Memref.whole Cert.KernelIdeal.main_v0_scv : Memref Cert.KernelIdeal.sig Kind.scVector Space.hbm Cert.KernelIdeal.S32x16 EltTy.f32)
local notation "iB" => (Memref.whole Cert.KernelIdeal.cc0_scratch0 : Memref Cert.KernelIdeal.sig Kind.scVector Space.vmem Cert.KernelIdeal.S128 EltTy.i32)
local notation "cB" => (Memref.whole Cert.KernelIdeal.cc0_scratch1 : Memref Cert.KernelIdeal.sig Kind.scVector Space.vmem Cert.KernelIdeal.S128x128 EltTy.f32)
local notation "fB" => (Memref.whole Cert.KernelIdeal.cc0_scratch2 : Memref Cert.KernelIdeal.sig Kind.scVector Space.vmem Cert.KernelIdeal.S128x128 EltTy.f32)
local notation "sB" => (Memref.whole Cert.KernelIdeal.cc0_scratch3 : Memref Cert.KernelIdeal.sig Kind.scVector Space.vmem Cert.KernelIdeal.S16 EltTy.f32)

variable (m : (ℓ : Loc nD τ sig) → Buf (Elt F) ℓ)
variable [FloatOps F]

section Task

variable (d : Dev nD) (L : grid0.Coords)

/-- A task's run: from its read shares, its row and its scratch it ends with the row at the task's lane sums. -/
theorem tile_run (h : Labels m) (O : CellTallies nD τ sig (HIx 1)) (W : Waits sig (HIx 1))
    (g0 : Buf (Elt F) ((iB).view.loc (thr d L))) (g1 : Buf (Elt F) ((cB).view.loc (thr d L)))
    (g2 : Buf (Elt F) ((fB).view.loc (thr d L))) (g3 : Buf (Elt F) ((sB).view.loc (thr d L))) (q : PosShare TreeShare) :
    (iprop(Transfers.MayWaits (thr d L) (default : HIx 1) O
        ∗ ((yV).view.loc (thr d L) ↦{q} m (yLoc d))
        ∗ ((fV).view.loc (thr d L) ↦{q} m (fLoc d))
        ∗ ((cV).view.loc (thr d L) ↦{q} m (cLoc d))
        ∗ ((pOut L).view.loc (thr d L) ↦[(pOut L).view.set]{fullShare} m (pLoc d))
        ∗ ((iB).view.loc (thr d L) ↦{fullShare} g0)
        ∗ ((cB).view.loc (thr d L) ↦{fullShare} g1)
        ∗ ((fB).view.loc (thr d L) ↦{fullShare} g2)
        ∗ ((sB).view.loc (thr d L) ↦{fullShare} g3)
        ∗ sems0 d L
        ∗ owes (thr d L) O W) : sProp 𝕄)
      ⊢ wp frame (wpE (defs₀ (F := F)) 𝒱₀ (thr d L) none) Set.univ
          (cc0__body L yV (Memref.isWhole_whole _) fV (Memref.isWhole_whole _) cV (Memref.isWhole_whole _)
            pV (Memref.isWhole_whole _) iB (Memref.isWhole_whole _) cB (Memref.isWhole_whole _) fB (Memref.isWhole_whole _)
            sB (Memref.isWhole_whole _) cc0_scratch4 cc0_scratch5 cc0_scoped0 cc0_scoped1)
          fun _ => iprop(((yV).view.loc (thr d L) ↦{q} m (yLoc d))
            ∗ ((fV).view.loc (thr d L) ↦{q} m (fLoc d))
            ∗ ((cV).view.loc (thr d L) ↦{q} m (cLoc d))
            ∗ ((pOut L).view.loc (thr d L) ↦[(pOut L).view.set]{fullShare} partials m d)
            ∗ (∃ g, (iB).view.loc (thr d L) ↦{fullShare} g)
            ∗ (∃ g, (cB).view.loc (thr d L) ↦{fullShare} g)
            ∗ (∃ g, (fB).view.loc (thr d L) ↦{fullShare} g)
            ∗ (∃ g, (sB).view.loc (thr d L) ↦{fullShare} g)
            ∗ sems0 d L
            ∗ ∃ W', owes (thr d L) O W') := by
  iintro ⟨#Hmw, HY, HFs, HC, HP, HI, HCB, HFB, HS, ⟨Hs0, Hs1, Hs2, Hs3⟩, HO⟩
  sl_unfold [cc0__body]
  sl_exec
  have hin := fun g => labs_inb m d L h g (tile_run.sl.dma0_1 m d L) rfl
  sl_exec
  have ef : View.write (Elt F) (fB).view g2 (tile_run.sl.dma0 m d L) Finset.univ = featBlk m d (wid L) := by
    exact feat_landed m d L g2 _ rfl
  have eg : (cB).view.writes (Elt F) (cB).view.junk
      [⟨Rect.unit (s := S128x128) ![0, 0] S128x128.size inb_S128x128_S128x128_0_0, tile_run.sl.gather0 m d L g0 hin⟩] = cenBlk m d (wid L) :=
    cen_landed m d L h g0 _ rfl (hin g0)
  rw [ef, eg]
  have hrow := row_landed m d L (m (pLoc d))
  generalize featBlk m d (wid L) = f at hrow ⊢
  generalize cenBlk m d (wid L) = g at hrow ⊢
  sl_for (inv d L f g) $$ [HCB HFB]
  case region => exact fun k a => trip d L f g k a
  · unfold inv
    isplitr; · ipureintro; rfl
    isplitl [HCB] <;> iassumption
  iintro %a HI'
  unfold inv
  icases HI' with ⟨%ha, HCB, HFB⟩
  subst ha
  sl_exec
  sl_step
  have hrow' := hrow (tile_run.sl.dma2 d L g3 f g) (by
    unfold tile_run.sl.dma2 tile_run.sl.HS_1
    refine (sums_whole d L g3 _).trans ?_
    rw [show Scf.trips k0_t1_loop.lb k0_t1_loop.ub k0_t1_loop.st = 128 from trips_eq]
    rfl)
  isplitl [HY]; · iexact HY
  isplitl [HFs]; · iexact HFs
  isplitl [HC]; · iexact HC
  isplitl [HP]
  · iapply (Entails.of_eq (pointsTo_congr (f := (pOut L).view.writes (Elt F) (m (pLoc d)) [⟨Rect.whole S16, tile_run.sl.dma2 d L g3 f g⟩])
      (g := partials m d) hrow'))
    iexact HP
  isplitl [HI]; · iexists _; iexact HI
  isplitl [HCB]; · iexists _; iexact HCB
  isplitl [HFB]; · iexists _; iexact HFB
  isplitl [HS]; · iexists _; iexact HS
  isplitl [Hs0 Hs1 Hs2 Hs3]
  · unfold sems0; sl_close
  iexists _; iexact HO

end Task

end Cert.Proof.Center

end
-- ==== Proof.Owned.lean ====
/-
  What a subcore owns when a task starts: its four transfer semaphores at zero, its four scratch buffers at some contents,
  and the points-to assertions of the task's pieces in the spelling its body uses.
-/
module

public import proofs.«01_k».proof.Proof.Task

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_arg0_scv : Memref Cert.KernelIdeal.sig Kind.scVector Space.hbm Cert.KernelIdeal.S4096 EltTy.i32)
local notation "fV" => (Memref.whole Cert.KernelIdeal.main_arg1_scv : Memref Cert.KernelIdeal.sig Kind.scVector Space.hbm Cert.KernelIdeal.S4096x128 EltTy.f32)
local notation "cV" => (Memref.whole Cert.KernelIdeal.main_arg2_scv : Memref Cert.KernelIdeal.sig Kind.scVector Space.hbm Cert.KernelIdeal.S1000x128 EltTy.f32)
local notation "pV" => (Memref.whole Cert.KernelIdeal.main_v0_scv : Memref Cert.KernelIdeal.sig Kind.scVector Space.hbm Cert.KernelIdeal.S32x16 EltTy.f32)
local notation "iB" => (Memref.whole Cert.KernelIdeal.cc0_scratch0 : Memref Cert.KernelIdeal.sig Kind.scVector Space.vmem Cert.KernelIdeal.S128 EltTy.i32)
local notation "cB" => (Memref.whole Cert.KernelIdeal.cc0_scratch1 : Memref Cert.KernelIdeal.sig Kind.scVector Space.vmem Cert.KernelIdeal.S128x128 EltTy.f32)
local notation "fB" => (Memref.whole Cert.KernelIdeal.cc0_scratch2 : Memref Cert.KernelIdeal.sig Kind.scVector Space.vmem Cert.KernelIdeal.S128x128 EltTy.f32)
local notation "sB" => (Memref.whole Cert.KernelIdeal.cc0_scratch3 : Memref Cert.KernelIdeal.sig Kind.scVector Space.vmem Cert.KernelIdeal.S16 EltTy.f32)

variable (m : (ℓ : Loc nD τ sig) → Buf (Elt F) ℓ)
variable [FloatOps F]

section Task

variable (d : Dev nD) (L : grid0.Coords)

/-- The row of the partial sums the body addresses is the row of the task. -/
theorem pRect_eq : pRect L = prow (wid L) := by
  unfold pRect prow Rect.part Rect.block
  congr 1 <;> funext a
  · rw [k0_off11_eq]
    match a with
    | 0 => simp [Shape.partIx, Shape.partSize, wid, taskOf]; rfl
    | 1 => simp [Shape.partIx, Shape.partSize]
  · match a with
    | 0 => simp [Shape.partSize]
    | 1 => simp [Shape.partSize]

/-- The window a task writes covers exactly its row of the partial sums. -/
theorem pOut_set : (pOut L).view.set = pRowSet (wid L) := by
  show (((pV).view.slice (pRect L)).reshape S16 squeezes_S1x16_S16.numel_eq).set = ((pV).view.slice (prow (wid L))).set
  rw [View.set_reshape]
  exact pRect_eq L ▸ rfl

/-- The row in the body's spelling is the row in the call's. -/
theorem pOut_pts (f : Buf (Elt F) (pLoc d)) :
    ((pOut L).view.loc (thr d L) ↦[(pOut L).view.set]{fullShare} f : sProp 𝕄) = pRow d (wid L) f := by
  unfold pRow
  rw [pOut_set]

/-- The four semaphores the body names, as semaphores of the whole machine. -/
abbrev gsem (k : Fin 4) : GSem nD τ sig := (thr d L, .dma (dsem k.val k.isLt))

/-- Each of a task's four copy semaphores is one the task owns. -/
theorem gsem_own (k : Fin 4) : gsem d L k ∈ ownCells (thr d L) :=
  mem_ownCells.mpr ⟨rfl, (show ∀ s : DmaSem sig, (SemLoc.dma s : SemLoc sig).isScoped .scVector = true by decide) _⟩

/-- The four copy semaphores are distinct. -/
theorem gsem_inj : Function.Injective (gsem d L) := fun a b h => by
  have e := congrArg (fun g : GSem nD τ sig => g.2) h
  simp only [SemLoc.dma.injEq, Fin.mk.injEq] at e
  exact Fin.ext e

/-- A subcore's own semaphores at zero are the four its body names and the others. -/
theorem own_sems :
    (ownSems0 (thr d L) : sProp 𝕄)
      = iprop(sems0 d L ∗ bigSep (ownCells (thr d L) \ Finset.univ.image (gsem d L)) fun g => semVal g 0) := by
  have hsub : Finset.univ.image (gsem d L) ⊆ ownCells (thr d L) := Finset.image_subset_iff.mpr fun k _ => gsem_own d L k
  unfold SparseCore.Cfg.ownSems0
  rw [SparseCore.bigSep_sdiff_split' hsub, SparseCore.bigSep_image_of_injOn (gsem_inj d L).injOn,
    show (Finset.univ : Finset (Fin 4)) = {0, 1, 2, 3} by decide,
    SparseCore.bigSep_insert' (by decide), SparseCore.bigSep_insert' (by decide), SparseCore.bigSep_insert' (by decide),
    bigSep_singleton]
  rfl

/-- The subcore that runs the task, and one of its scratch buffers as a buffer of the device. -/
abbrev subProc : Proc τ := .scVector (coreOf L) (subOf L)
abbrev ownRef (b : Ref sig .scVector) : DevRef τ sig := (subProc L).devRef b

/-- Distinct scratch buffers of a task stay distinct as buffers of the device. -/
theorem ownRef_ne {b b' : Ref sig .scVector} (h : b ≠ b') : ownRef L b ≠ ownRef L b' := fun e => h (Proc.devRef_injective _ e)

/-- What is left of a subcore's own buffers without the four its body names. -/
abbrev otherRefs : Finset (DevRef τ sig) :=
  ((((ownRefs (τ := τ) (subProc L)).erase (ownRef L cc0_scratch0)).erase (ownRef L cc0_scratch1)).erase (ownRef L cc0_scratch2)).erase
    (ownRef L cc0_scratch3)

/-- A subcore's own buffers at some contents are the four its body names and the others. -/
theorem own_bufs :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (otherRefs L) fun b => iprop(∃ f, ((d, b) : Loc nD τ sig) ↦{fullShare} f)) := by
  have m0 : ownRef L cc0_scratch0 ∈ ownRefs (τ := τ) (subProc L) := SparseCore.Cfg.mem_ownRefs_of_owner rfl
  have m1 : ownRef L cc0_scratch1 ∈ (ownRefs (τ := τ) (subProc L)).erase (ownRef L cc0_scratch0) :=
    Finset.mem_erase.mpr ⟨ownRef_ne L (by decide), SparseCore.Cfg.mem_ownRefs_of_owner rfl⟩
  have m2 : ownRef L cc0_scratch2 ∈ ((ownRefs (τ := τ) (subProc L)).erase (ownRef L cc0_scratch0)).erase (ownRef L cc0_scratch1) :=
    Finset.mem_erase.mpr ⟨ownRef_ne L (by decide), Finset.mem_erase.mpr ⟨ownRef_ne L (by decide), SparseCore.Cfg.mem_ownRefs_of_owner rfl⟩⟩
  have m3 : ownRef L cc0_scratch3 ∈ (((ownRefs (τ := τ) (subProc L)).erase (ownRef L cc0_scratch0)).erase (ownRef L cc0_scratch1)).erase
      (ownRef L cc0_scratch2) :=
    Finset.mem_erase.mpr ⟨ownRef_ne L (by decide), Finset.mem_erase.mpr ⟨ownRef_ne L (by decide),
      Finset.mem_erase.mpr ⟨ownRef_ne L (by decide), SparseCore.Cfg.mem_ownRefs_of_owner rfl⟩⟩⟩
  unfold SparseCore.Cfg.ownBufs
  refine (SparseCore.bigSep_erase' m0).trans ?_
  rw [SparseCore.bigSep_erase' m1, SparseCore.bigSep_erase' m2, SparseCore.bigSep_erase' m3]

end Task

end Cert.Proof.Center

end
-- ==== Proof.Body.lean ====
/-
  The launch's obligation for one task: from what the call hands the task and what its subcore owns, the body ends with the
  task's row of the partial sums at its lane sums.
-/
module

public import proofs.«01_k».proof.Proof.Tile
import proofs.«01_k».proof.Proof.Owned

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_arg0_scv : Memref Cert.KernelIdeal.sig Kind.scVector Space.hbm Cert.KernelIdeal.S4096 EltTy.i32)
local notation "fV" => (Memref.whole Cert.KernelIdeal.main_arg1_scv : Memref Cert.KernelIdeal.sig Kind.scVector Space.hbm Cert.KernelIdeal.S4096x128 EltTy.f32)
local notation "cV" => (Memref.whole Cert.KernelIdeal.main_arg2_scv : Memref Cert.KernelIdeal.sig Kind.scVector Space.hbm Cert.KernelIdeal.S1000x128 EltTy.f32)
local notation "pV" => (Memref.whole Cert.KernelIdeal.main_v0_scv : Memref Cert.KernelIdeal.sig Kind.scVector Space.hbm Cert.KernelIdeal.S32x16 EltTy.f32)
local notation "iB" => (Memref.whole Cert.KernelIdeal.cc0_scratch0 : Memref Cert.KernelIdeal.sig Kind.scVector Space.vmem Cert.KernelIdeal.S128 EltTy.i32)
local notation "cB" => (Memref.whole Cert.KernelIdeal.cc0_scratch1 : Memref Cert.KernelIdeal.sig Kind.scVector Space.vmem Cert.KernelIdeal.S128x128 EltTy.f32)
local notation "fB" => (Memref.whole Cert.KernelIdeal.cc0_scratch2 : Memref Cert.KernelIdeal.sig Kind.scVector Space.vmem Cert.KernelIdeal.S128x128 EltTy.f32)
local notation "sB" => (Memref.whole Cert.KernelIdeal.cc0_scratch3 : Memref Cert.KernelIdeal.sig Kind.scVector Space.vmem Cert.KernelIdeal.S16 EltTy.f32)

variable (m : (ℓ : Loc nD τ sig) → Buf (Elt F) ℓ)
variable [FloatOps F]

section Task

variable (d : Dev nD) (L : grid0.Coords)

/-- The task at `L`: given its piece of the arrays and its subcore's buffers and semaphores, it ends with its row at the
    lane sums and the rest as it was given. -/
theorem tile_body (hF : (K (F := F)).Facts) (h : Labels m) (O : CellTallies nD τ sig (HIx 1)) (W : Waits sig (HIx 1)) (hO : ∀ g, O g none = 0) :
    iprop(levAts (K (F := F)).L (K (F := F)).lev ∗ emp ∗ piece m d (wid L) (m (pLoc d))
        ∗ scopedBufs (thr d L) ∗ scopedSems0 (thr d L) ∗ owes (thr d L) O W)
      ⊢ wp frame (wpE (defs₀ (F := F)) 𝒱₀ (thr d L) none) Set.univ
          (cc0__body L yV (Memref.isWhole_whole _) fV (Memref.isWhole_whole _) cV (Memref.isWhole_whole _)
            pV (Memref.isWhole_whole _) iB (Memref.isWhole_whole _) cB (Memref.isWhole_whole _) fB (Memref.isWhole_whole _)
            sB (Memref.isWhole_whole _) cc0_scratch4 cc0_scratch5 cc0_scoped0 cc0_scoped1)
          fun _ => iprop(piece m d (wid L) (partials m d)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (coreOf L) (subOf L), SparseCore.Cfg.scopedSems0_V (Val := Elt F) d (coreOf L) (subOf L), own_sems, own_bufs]
  iintro ⟨#Hlv, -, ⟨HY, HFs, HC, HP⟩, ⟨⟨%g0, H0⟩, ⟨%g1, H1⟩, ⟨%g2, H2⟩, ⟨%g3, H3⟩, Hrest⟩, ⟨Hs, Hsrest⟩, HO⟩
  ihave Hmw := (show levAts (K (F := F)).L (K (F := F)).lev ⊢ Transfers.MayWaits (thr d L) (default : HIx 1) O from
    (K (F := F)).mayWaits_none (thr := thr d L) hO) $$ Hlv
  ihave HP' := (Entails.of_eq (pOut_pts (F := F) d L _).symm) $$ HP
  iapply (wp_wand_r Idealize.ShloMosaic.frame (wpE (defs₀ (F := F)) 𝒱₀ (thr d L) none) Set.univ)
  isplitl [HY HFs HC HP' H0 H1 H2 H3 Hs HO]
  · iapply (tile_run m d L h O W g0 g1 g2 g3 (tok (wid L)))
    isplitr; · iexact Hmw
    isplitl [HY]; · iexact HY
    isplitl [HFs]; · iexact HFs
    isplitl [HC]; · iexact HC
    isplitl [HP']; · iexact HP'
    isplitl [H0]; · iexact H0
    isplitl [H1]; · iexact H1
    isplitl [H2]; · iexact H2
    isplitl [H3]; · iexact H3
    isplitl [Hs]; · iexact Hs
    iexact HO
  iintro %_ ⟨HY, HFs, HC, HP', H0, H1, H2, H3, Hs, ⟨%W', HO⟩⟩
  isplitl [HY HFs HC HP']
  · isplitl [HY]; · iexact HY
    isplitl [HFs]; · iexact HFs
    isplitl [HC]; · iexact HC
    iapply (Entails.of_eq (pOut_pts (F := F) d L _)); iexact HP'
  isplitl [H0 H1 H2 H3 Hrest]
  · isplitl [H0]; · iexact H0
    isplitl [H1]; · iexact H1
    isplitl [H2]; · iexact H2
    isplitl [H3]; · iexact H3
    iexact Hrest
  isplitl [Hs Hsrest]
  · isplitl [Hs]; · iexact Hs
    iexact Hsrest
  iexists W'; isplitr
  · ipureintro; intro p _
    cases hp : p.2 with
    | none => exact .inr (.inl rfl)
    | some q => exact .inr (.inr (congrArg some (Subsingleton.elim q 0)))
  · iexact HO

end Task

/-- The grid point a SparseCore's index and a subcore's index give. -/
def pointOf (c : Fin (grid0.bound 0)) (s : Fin (grid0.bound 1)) : grid0.Coords :=
  fun | 0 => c | 1 => s | ⟨_ + 2, h⟩ => absurd h (Nat.not_lt.2 (Nat.le_add_left _ _))

/-- The program of a vector subcore is the body at its grid point. -/
theorem defs₀_vector (c : Fin τ.nSC) (s : Fin τ.nSub) :
    defs₀ (F := F) (.scVector c s) 0 ()
      = SparseCore.onTile hcore0 hsub0 (fun c s => cc0__body (pointOf c s)
          yV (Memref.isWhole_whole _) fV (Memref.isWhole_whole _) cV (Memref.isWhole_whole _)
          pV (Memref.isWhole_whole _) iB (Memref.isWhole_whole _) cB (Memref.isWhole_whole _) fB (Memref.isWhole_whole _)
          sB (Memref.isWhole_whole _) cc0_scratch4 cc0_scratch5 cc0_scoped0 cc0_scoped1) ⟨⟩ c s := rfl

/-- Every task of the call meets its obligation. -/
theorem tileObl (hF : (K (F := F)).Facts) (h : Labels m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (pointOf ⟨_, hci.1⟩ ⟨_, hci.2⟩) hF h O W hO

end Cert.Proof.Center

end
-- ==== Proof.Deal.lean ====
/-
  How the arrays are dealt to the tasks: each array the tasks read is cut into 32 read shares, the array of partial sums
  into its 32 rows, and the two SparseCores' sixteen tasks each are the 32 tasks.
-/
module

public import proofs.«01_k».proof.Proof.Setup

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F]

/-- The pairs of a SparseCore and a subcore, numbered as the tasks. -/
def taskEquiv : Fin 2 × Fin 16 ≃ Fin 32 := (Equiv.prodComm (Fin 2) (Fin 16)).trans finProdFinEquiv

/-- The pairing of SparseCores and subcores with tasks is the tasks' numbering. -/
theorem taskEquiv_apply (c : Fin 2) (i : Fin 16) : taskEquiv (c, i) = taskOf c i := by
  apply Fin.ext
  show c.val + 2 * i.val = 2 * i.val + c.val
  omega

omit [FloatOps F] in
/-- A family over the SparseCores and their subcores is the family over the tasks. -/
theorem deal_cores (Φ : Fin 32 → sProp 𝕄) :
    (bigSep Finset.univ fun c : Fin ((K (F := F)).nCore 0) => bigSep Finset.univ fun i : Fin ((K (F := F)).nSub 0) => Φ (taskAt (F := F) c i))
      = bigSep Finset.univ Φ := by
  rw [bigSep_univ_equiv taskEquiv Φ, BI.bigSep_univ_prod]
  refine bigSep_congr fun c _ => bigSep_congr fun i _ => ?_
  rw [taskEquiv_apply]
  rfl

omit [FloatOps F] in
/-- A task's positions in the partial sums are those of its box. -/
theorem pRowSet_eq (w : Fin 32) : pRowSet w = (prow w).set := by
  show ((View.whole (main_v0_scv : Ref sig .scVector)).slice (prow w)).set = _
  rw [View.set_slice]; exact Finset.map_refl

omit [FloatOps F] in
/-- The array of partial sums is its 32 rows. -/
theorem deal_rows (d : Dev nD) (f : Buf (Elt F) (pLoc d)) :
    (pLoc d ↦{fullShare} f : sProp 𝕄) = bigSep Finset.univ fun w : Fin 32 => pRow d w f := by
  have hdis : ∀ w ∈ (Finset.univ : Finset (Fin 32)), ∀ w' ∈ (Finset.univ : Finset (Fin 32)), w ≠ w' → Disjoint (pRowSet w) (pRowSet w') :=
    fun w _ w' _ hw => by rw [pRowSet_eq, pRowSet_eq]; exact Rect.part_disjoint pdiv hw
  have hcov : (Finset.univ : Finset (Fin 32)).biUnion pRowSet = Finset.univ :=
    (Finset.biUnion_congr rfl fun w _ => pRowSet_eq w).trans (Rect.biUnion_part pdiv)
  rw [← pointsTo_biUnion Finset.univ (ℓ := pLoc d) pRowSet hdis, hcov]; try rfl

omit [FloatOps F] in
/-- The 32 tasks' pieces, array by array. -/
theorem pieces_split (d : Dev nD) (f : Buf (Elt F) (pLoc d)) :
    (bigSep Finset.univ fun w : Fin 32 => piece m d w f)
      = (iprop((bigSep Finset.univ fun w : Fin 32 => yTok m d w) ∗ (bigSep Finset.univ fun w : Fin 32 => fTok m d w)
          ∗ (bigSep Finset.univ fun w : Fin 32 => cTok m d w) ∗ pLoc d ↦{fullShare} f) : sProp 𝕄) := by
  rw [bigSep_sep', bigSep_sep', bigSep_sep', ← deal_rows]

/-- What the call takes, and what it gives back, over both SparseCores. -/
theorem call_takes (d : Dev nD) : (bigSep Finset.univ fun c : Fin ((K (F := F)).nCore 0) => (P m).st 0 d c)
    = (bigSep Finset.univ fun w : Fin 32 => piece m d w (m (pLoc d)) : sProp 𝕄) :=
  deal_cores (F := F) (fun w => piece m d w (m (pLoc d)))
/-- What the two SparseCores return is the four arrays whole, the partial sums at their final contents. -/
theorem call_gives (d : Dev nD) : (bigSep Finset.univ fun c : Fin ((K (F := F)).nCore 0) => (P m).dn 0 d c)
    = (bigSep Finset.univ fun w : Fin 32 => piece m d w (partials m d) : sProp 𝕄) :=
  deal_cores (F := F) (fun w => piece m d w (partials m d))

end Cert.Proof.Center

end
-- ==== Proof.Run.lean ====
/-
  The program's run: the call, then the four host operations that add up the partial sums and halve the total. It ends
  with the arguments as launched, the result at `total`, and every semaphore at zero.
-/
module

public import proofs.«01_k».proof.Proof.Body
import proofs.«01_k».proof.Proof.Deal

@[expose] public section

noncomputable section

namespace Cert.Proof.Center

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (ρ : Dev nD → PrngReg) (m : (ℓ : Loc nD τ sig) → Buf (Elt F) ℓ)
variable [FloatOps F]

/-- The program's result: half the sum of all the partial sums. -/
def total (d : Dev nD) : FVec F S_ .f32 :=
  mulf (Host.reduceAdd (partials m d) (constant S_ .f32 0x00000000#32) reducesTo_S32x16_S_d0_1 h_S_) (constant S_ .f32 0x3F000000#32)

/-! ## The launch's resources -/

/-- The launch element: the handshakes' part, and nothing counted. -/
def u₀ : UU := (initOf (K (F := F)).hsCells (K (F := F)).hsToks, 1)

omit [FloatOps F] in
/-- Any number of empty resources is an empty resource. -/
theorem emps {I : Type} (s : Finset I) : (bigSep s fun _ => iprop(emp)) = (iprop(emp) : sProp 𝕄) := bigSep_emp_const s

/-- The launch element gives the handshakes' part; tasks and programs ask for nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host's arrays -/

abbrev bY : DevRef τ sig := Proc.devRef .tc (main_arg0 : Ref sig .tc)
abbrev bF : DevRef τ sig := Proc.devRef .tc (main_arg1 : Ref sig .tc)
abbrev bC : DevRef τ sig := Proc.devRef .tc (main_arg2 : Ref sig .tc)
abbrev bP : DevRef τ sig := Proc.devRef .tc (main_v0 : Ref sig .tc)
abbrev bZ : DevRef τ sig := Proc.devRef .tc (main_cst : Ref sig .tc)
abbrev bS : DevRef τ sig := Proc.devRef .tc (main_v1 : Ref sig .tc)
abbrev bH : DevRef τ sig := Proc.devRef .tc (main_cst_0 : Ref sig .tc)
abbrev bR : DevRef τ sig := Proc.devRef .tc (main_v2 : Ref sig .tc)

abbrev rLoc (d : Dev nD) : Loc nD τ sig := (SparseCore.T d).loc main_v2

/-- The host's four operations: the zero, the sum, the half, the product. -/
abbrev opZ : HloOp τ sig (Elt F) := StableHlo.nullary main_cst (constant S_ .f32 0x00000000#32)
abbrev opS : HloOp τ sig (Elt F) := StableHlo.binary main_v0 main_cst main_v1 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opH : HloOp τ sig (Elt F) := StableHlo.nullary main_cst_0 (constant S_ .f32 0x3F000000#32)
abbrev opR : HloOp τ sig (Elt F) := StableHlo.binary main_v1 main_cst_0 main_v2 (mulf : (⟨S_, .f32⟩ : BufTy).Contents (Elt F) → (⟨S_, .f32⟩ : BufTy).Contents (Elt F) → (⟨S_, .f32⟩ : BufTy).Contents (Elt F))

/-- The host's arrays, all of them. -/
abbrev hostRefs : Finset (DevRef τ sig) := {bY, bF, bC, bP, bZ, bS, bH, bR}

omit [FloatOps F] in
/-- The program's host buffers, held one by one, are its host buffers held together. -/
theorem held_all (d : Dev nD) (W : Valuation τ sig (Elt F)) :
    (held (T d) hostRefs W : sProp 𝕄)
      = iprop((yLoc d ↦{fullShare} W bY) ∗ (fLoc d ↦{fullShare} W bF) ∗ (cLoc d ↦{fullShare} W bC) ∗ (pLoc d ↦{fullShare} W bP)
          ∗ ((SparseCore.T d).loc main_cst ↦{fullShare} W bZ) ∗ ((SparseCore.T d).loc main_v1 ↦{fullShare} W bS)
          ∗ ((SparseCore.T d).loc main_cst_0 ↦{fullShare} W bH) ∗ rLoc d ↦{fullShare} W bR) := by
  unfold held hostRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
/-- The buffers the launch hands over are the ones the program names. -/
theorem unscoped_all (d : Dev nD) :
    (unscopedBufs d (fun b => m ((SparseCore.T d).loc b)) : sProp 𝕄)
      = iprop((yLoc d ↦{fullShare} m (yLoc d)) ∗ (fLoc d ↦{fullShare} m (fLoc d)) ∗ (cLoc d ↦{fullShare} m (cLoc d)) ∗ (pLoc d ↦{fullShare} m (pLoc d))
          ∗ ((SparseCore.T d).loc main_cst ↦{fullShare} m ((SparseCore.T d).loc main_cst)) ∗ ((SparseCore.T d).loc main_v1 ↦{fullShare} m ((SparseCore.T d).loc main_v1))
          ∗ ((SparseCore.T d).loc main_cst_0 ↦{fullShare} m ((SparseCore.T d).loc main_cst_0)) ∗ rLoc d ↦{fullShare} m (rLoc d)) := by
  unfold unscopedBufs
  rw [show (Finset.univ.filter fun b : Ref sig .tc => ¬ b.isScoped) = {main_arg0, main_arg1, main_arg2, main_v0, main_cst, main_v1, main_cst_0, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The host's arrays after the call. -/
def Vc (d : Dev nD) : Valuation τ sig (Elt F) := Function.update (fun b => m (d, b)) bP (partials m d)
/-- The host's arrays after the constant zero. -/
def Vz (d : Dev nD) : Valuation τ sig (Elt F) := (opZ (F := F)).result (Vc m d)
/-- The same after the sum. -/
def Vs (d : Dev nD) : Valuation τ sig (Elt F) := (opS (F := F)).result (Vz m d)
/-- The same after the constant one half. -/
def Vh (d : Dev nD) : Valuation τ sig (Elt F) := (opH (F := F)).result (Vs m d)
/-- The same after the product. -/
def Vr (d : Dev nD) : Valuation τ sig (Elt F) := (opR (F := F)).result (Vh m d)

/-- After the call every buffer but the partial sums is as launched. -/
theorem Vc_of_ne (d : Dev nD) {b : DevRef τ sig} (hb : b ≠ bP) : Vc m d b = m (d, b) := Function.update_of_ne hb _ _

/-- An array none of the four operations writes ends as the call left it. -/
theorem Vr_kept (d : Dev nD) {b : DevRef τ sig} (hz : b ≠ bZ) (hs : b ≠ bS) (hh : b ≠ bH) (hr : b ≠ bR) : Vr m d b = Vc m d b := by
  unfold Vr Vh Vs Vz
  rw [(opR (F := F)).result_of_not_mem _ (show b ∉ ({bR} : Finset (DevRef τ sig)) from fun e => hr (Finset.mem_singleton.mp e)),
    (opH (F := F)).result_of_not_mem _ (show b ∉ ({bH} : Finset (DevRef τ sig)) from fun e => hh (Finset.mem_singleton.mp e)),
    (opS (F := F)).result_of_not_mem _ (show b ∉ ({bS} : Finset (DevRef τ sig)) from fun e => hs (Finset.mem_singleton.mp e)),
    (opZ (F := F)).result_of_not_mem _ (show b ∉ ({bZ} : Finset (DevRef τ sig)) from fun e => hz (Finset.mem_singleton.mp e))]

/-- The result array ends at the program's result. -/
theorem Vr_result (d : Dev nD) : Vr m d bR = total m d := by
  have hz : Vz m d bZ = constant S_ .f32 0x00000000#32 := StableHlo.nullary_result _ _ _ _
  have hp : Vz m d bP = partials m d :=
    ((opZ (F := F)).result_of_not_mem _ (show bP ∉ ({bZ} : Finset (DevRef τ sig)) by decide)).trans (Function.update_self _ _ _)
  have hs : Vs m d bS = Host.reduceAdd (partials m d) (constant S_ .f32 0x00000000#32) reducesTo_S32x16_S_d0_1 h_S_ :=
    (StableHlo.binary_result _ _ _ _ _ _ _ _).trans (by rw [hz, hp])
  have hs' : Vh m d bS = Vs m d bS := (opH (F := F)).result_of_not_mem _ (show bS ∉ ({bH} : Finset (DevRef τ sig)) by decide)
  have hh : Vh m d bH = constant S_ .f32 0x3F000000#32 := StableHlo.nullary_result _ _ _ _
  exact (StableHlo.binary_result _ _ _ _ _ _ _ _).trans (by rw [hs', hs, hh]; rfl)

/-- Each host operation touches host buffers only. -/
theorem sub_Z : (opZ (F := F)).bufs ⊆ hostRefs := show ({bZ} : Finset (DevRef τ sig)) ⊆ hostRefs by decide
/-- The same of the sum. -/
theorem sub_S : (opS (F := F)).bufs ⊆ hostRefs := show ({bP, bZ, bS} : Finset (DevRef τ sig)) ⊆ hostRefs by decide
/-- The same of the constant one half. -/
theorem sub_H : (opH (F := F)).bufs ⊆ hostRefs := show ({bH} : Finset (DevRef τ sig)) ⊆ hostRefs by decide
/-- The same of the product. -/
theorem sub_R : (opR (F := F)).bufs ⊆ hostRefs := show ({bS, bH, bR} : Finset (DevRef τ sig)) ⊆ hostRefs by decide

/-- What the host keeps for the claims: the arguments as launched, the result. -/
abbrev FIN (d : Dev nD) : sProp 𝕄 :=
  iprop((yLoc d ↦{fullShare} m (yLoc d)) ∗ (fLoc d ↦{fullShare} m (fLoc d)) ∗ (cLoc d ↦{fullShare} m (cLoc d)) ∗ rLoc d ↦{fullShare} total m d)

/-- The host's program on device `d`: the call, whose tasks are given their shares of the arguments and their rows of the
    partial sums and return them, then the four operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_all]
  simp only [main, wp_bind, wp_pure]
  iintro ⟨#Hctx, Hst, ⟨Hb, ⟨HY, HFs, HC, HP, HZ, HS, HH, HR⟩, Hts, -⟩, -⟩
  -- each argument is cut into the tasks' shares and a remainder kept here
  ihave HY := (Transfers.pointsTo_toks fullShare 32).1 $$ HY
  icases HY with ⟨HY, HYt⟩
  ihave HFs := (Transfers.pointsTo_toks fullShare 32).1 $$ HFs
  icases HFs with ⟨HFs, HFt⟩
  ihave HC := (Transfers.pointsTo_toks fullShare 32).1 $$ HC
  icases HC with ⟨HC, HCt⟩
  iapply ((K (F := F)).wp_run (D (F := F)) 𝒱 (EH := EH) (P := P m) κ d 0) $$ [Hst HY HFs HC HP HYt HFt HCt HZ HS HH HR Hb Hts]
  isplitr; · iexact Hctx
  isplitl [Hst]; · iexact Hst
  isplitl [HP HYt HFt HCt]
  · rw [call_takes, pieces_split]
    isplitl [HYt]; · iexact HYt
    isplitl [HFt]; · iexact HFt
    isplitl [HCt]; · iexact HCt
    iexact HP
  iintro ⟨Hst, Hdn⟩
  ihave Hdn := (Entails.of_eq ((call_gives m d).trans (pieces_split m d _))) $$ Hdn
  icases Hdn with ⟨HYt, HFt, HCt, HP⟩
  ihave HY := (Transfers.pointsTo_toks fullShare 32).2 $$ [HY HYt]
  · isplitl [HY] <;> iassumption
  ihave HFs := (Transfers.pointsTo_toks fullShare 32).2 $$ [HFs HFt]
  · isplitl [HFs] <;> iassumption
  ihave HC := (Transfers.pointsTo_toks fullShare 32).2 $$ [HC HCt]
  · isplitl [HC] <;> iassumption
  -- the four operations over all the host's arrays
  iapply (wp_hlo_within 𝒱 (SparseCore.T d) none Set.univ (op := opZ) (S := hostRefs) sub_Z (V := Vc m d)) $$ [Hb HY HFs HC HP HZ HS HH HR]
  · isplitl [Hb]; · iexact Hb
    rw [held_all, Vc_of_ne m d (b := bY) (by decide), Vc_of_ne m d (b := bF) (by decide), Vc_of_ne m d (b := bC) (by decide),
      Vc_of_ne m d (b := bZ) (by decide), Vc_of_ne m d (b := bS) (by decide), Vc_of_ne m d (b := bH) (by decide), Vc_of_ne m d (b := bR) (by decide),
      show Vc m d bP = partials m d from Function.update_self _ _ _]
    isplitl [HY]; · iexact HY
    isplitl [HFs]; · iexact HFs
    isplitl [HC]; · iexact HC
    isplitl [HP]; · iexact HP
    isplitl [HZ]; · iexact HZ
    isplitl [HS]; · iexact HS
    isplitl [HH]; · iexact HH
    iexact HR
  iintro ⟨Hb, Hheld⟩
  rw [wp_ret]; imodintro
  iapply (wp_hlo_within 𝒱 (SparseCore.T d) none Set.univ (op := opS) (S := hostRefs) sub_S (V := Vz m d)) $$ [Hb Hheld]
  · isplitl [Hb]; · iexact Hb
    iexact Hheld
  iintro ⟨Hb, Hheld⟩
  rw [wp_ret]; imodintro
  iapply (wp_hlo_within 𝒱 (SparseCore.T d) none Set.univ (op := opH) (S := hostRefs) sub_H (V := Vs m d)) $$ [Hb Hheld]
  · isplitl [Hb]; · iexact Hb
    iexact Hheld
  iintro ⟨Hb, Hheld⟩
  rw [wp_ret]; imodintro
  iapply (wp_hlo_within 𝒱 (SparseCore.T d) none Set.univ (op := opR) (S := hostRefs) sub_R (V := Vh m d)) $$ [Hb Hheld]
  · isplitl [Hb]; · iexact Hb
    iexact Hheld
  iintro ⟨Hb, Hheld⟩
  rw [wp_ret]; imodintro
  ihave Hh := (Entails.of_eq (show (held (T d) hostRefs ((opR (F := F)).result (Vh m d)) : sProp 𝕄) = _ from held_all (F := F) d (Vr m d))) $$ Hheld
  rw [Vr_kept m d (b := bY) (by decide) (by decide) (by decide) (by decide), Vc_of_ne m d (b := bY) (by decide),
    Vr_kept m d (b := bF) (by decide) (by decide) (by decide) (by decide), Vc_of_ne m d (b := bF) (by decide),
    Vr_kept m d (b := bC) (by decide) (by decide) (by decide) (by decide), Vc_of_ne m d (b := bC) (by decide), Vr_result]
  icases Hh with ⟨HY, HFs, HC, -, -, -, -, HR⟩
  imodintro
  isplitl [Hst]; · iexact Hst
  isplitr [Hb Hts]
  · isplitl [HY]; · iexact HY
    isplitl [HFs]; · iexact HFs
    isplitl [HC]; · iexact HC
    iexact HR
  isplitl [Hb] <;> iassumption

/-! ## The final memory -/

/-- What the claims read of the memory at the end: the result, the arguments. -/
def fq (d : Dev nD) (s' : Phys nD τ sig (Elt F)) : Prop :=
  s'.mem.mem (rLoc d) = total m d ∧ s'.mem.mem (yLoc d) = m (yLoc d) ∧ s'.mem.mem (fLoc d) = m (fLoc d) ∧ s'.mem.mem (cLoc d) = m (cLoc d)

/-- What the program ends with, against the final state, is what the claims read of the memory. -/
theorem hfin (d : Dev nD) (s' : Phys nD τ sig (Elt F)) : iprop(FIN m d ∗ SI s') ⊢ (⌜fq m d s'⌝ : sProp 𝕄) := by
  iintro ⟨⟨HY, HFs, HC, HR⟩, HSI⟩
  ihave H := (persistent_entails_right (SI_pointsTo_agree (st := s') (ℓ := yLoc d) (I := Finset.univ) (q := fullShare) (f := m (yLoc d)))) $$ [HSI HY]
  · isplitl [HSI] <;> iassumption
  icases H with ⟨%hy, HSI, -⟩
  ihave H := (persistent_entails_right (SI_pointsTo_agree (st := s') (ℓ := fLoc d) (I := Finset.univ) (q := fullShare) (f := m (fLoc d)))) $$ [HSI HFs]
  · isplitl [HSI] <;> iassumption
  icases H with ⟨%hf, HSI, -⟩
  ihave H := (persistent_entails_right (SI_pointsTo_agree (st := s') (ℓ := cLoc d) (I := Finset.univ) (q := fullShare) (f := m (cLoc d)))) $$ [HSI HC]
  · isplitl [HSI] <;> iassumption
  icases H with ⟨%hc, HSI, -⟩
  ihave H := (SI_pointsTo_agree (st := s') (ℓ := rLoc d) (I := Finset.univ) (q := fullShare) (f := total m d)) $$ [HSI HR]
  · isplitl [HSI] <;> iassumption
  icases H with %hr
  ipureintro
  exact ⟨funext fun i => hr i (Finset.mem_univ i), funext fun i => hy i (Finset.mem_univ i),
    funext fun i => hf i (Finset.mem_univ i), funext fun i => hc i (Finset.mem_univ i)⟩

/-- The run's outcome: result and arguments on every device, every semaphore at zero. -/
def QC : PUnit × MemSt nD τ sig (Elt F) → Prop := fun r =>
  (∀ c : Dev nD, r.2.mem (rLoc c) = total m c ∧ r.2.mem (yLoc c) = m (yLoc c) ∧ r.2.mem (fLoc c) = m (fLoc c) ∧ r.2.mem (cLoc c) = m (cLoc c))
    ∧ r.2.sem = fun _ => 0

/-- From any memory whose labels are in range, the program ends, with the outcome `QC`. -/
theorem run_main [∀ e, Nonempty (Elt F e)] (h : Labels m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts h)
    (fun q _ => match q with | 0 => SparseCore.Cfg.VecSplit.of_plain (vecSplit m))
    m ρ main (fun _ => iprop(emp)) (FIN m) (u₀ (F := F)) (sep_elim_left.trans (hu₀ m)) (hmain ρ m) (fq m) (hfin m) (QC m) (fun _ h hz => ⟨h, hz⟩)

end Cert.Proof.Center

end
-- ==== Proof.Value.lean ====
/-
  The kernel's value at exact floats. An accumulator is the sum of its rows' squared differences, a task's lane the sum
  of that over the eight column groups, and the result half the sum over all tasks and lanes, which taken in another
  order is the sum over all rows and columns.
-/
module

public import proofs.«01_k».proof.Proof.Run
public import Idealize.ShloMosaic.Lib.IdealHost
import Idealize.ShloMosaic.Lib.Pipeline.Value

@[expose] public section

noncomputable section

namespace Cert.Proof.Center

open Cert.KernelIdeal Cert.KernelIdeal.Gen
open Idealize.ShloMosaic Idealize.ShloMosaic.ValueIdx
open scoped BigOperators

variable (f g : S128x128.Idx → EReal)

/-- The squared difference of two blocks at row `n` and column `k`. -/
def sqAt (n k : Fin 128) : EReal := (f (ixB n k) - g (ixB n k)) * (f (ixB n k) - g (ixB n k))

/-- An accumulator after `N` rows is the sum of those rows' squared differences. -/
theorem accum_apply (c : Fin 8) (l : S16.Idx) (N : ℕ) :
    accum (F := Ideal) f g c N l = ∑ n ∈ Finset.range N, if h : n < 128 then sqAt f g ⟨n, h⟩ (colOf c (l 0)) else 0 := by
  induction N with
  | zero => exact Ideal.ofBits_zero_f32
  | succ N ih =>
    rw [Finset.sum_range_succ, ← ih]
    by_cases h : N < 128
    · rw [dif_pos h]
      show (if h : N < 128 then _ else accum (F := Ideal) f g c N) l = _
      rw [dif_pos h]
      rfl
    · rw [dif_neg h, add_zero]
      show (if h : N < 128 then _ else accum (F := Ideal) f g c N) l = _
      rw [dif_neg h]

/-- After all its rows an accumulator is the sum over a block's rows. -/
theorem accum_all (c : Fin 8) (l : S16.Idx) :
    accum (F := Ideal) f g c 128 l = ∑ n : Fin 128, sqAt f g n (colOf c (l 0)) := by
  rw [accum_apply, Finset.sum_range]
  exact Finset.sum_congr rfl fun n _ => dif_pos n.isLt

/-- A task's lane is the sum over the column groups and the rows. -/
theorem laneSums_apply (l : S16.Idx) :
    laneSums (F := Ideal) f g l = ∑ c : Fin 8, ∑ n : Fin 128, sqAt f g n (colOf c (l 0)) := by
  have e : laneSums (F := Ideal) f g l
      = ((accum (F := Ideal) f g 0 128 l + accum (F := Ideal) f g 1 128 l : EReal) + (accum (F := Ideal) f g 2 128 l + accum (F := Ideal) f g 3 128 l : EReal))
        + ((accum (F := Ideal) f g 4 128 l + accum (F := Ideal) f g 5 128 l : EReal) + (accum (F := Ideal) f g 6 128 l + accum (F := Ideal) f g 7 128 l : EReal)) := by
    unfold laneSums k0_pay4
    rw [shapeCast_self]
    rfl
  rw [e]
  simp only [accum_all, Fin.sum_univ_eight]
  ac_rfl

/-! ## Rows and columns, split and joined -/

/-- The 4096 rows are the 32 tasks' 128 rows each. -/
def rowSplit : Fin 32 × Fin 128 ≃ Fin 4096 where
  toFun p := rowOf p.1 p.2
  invFun r := (⟨r.val / 128, by have := r.isLt; omega⟩, ⟨r.val % 128, by omega⟩)
  left_inv p := by
    have := p.2.isLt
    refine Prod.ext (Fin.ext ?_) (Fin.ext ?_)
    · show (128 * p.1.val + p.2.val) / 128 = p.1.val
      omega
    · show (128 * p.1.val + p.2.val) % 128 = p.2.val
      omega
  right_inv r := Fin.ext (by show 128 * (r.val / 128) + r.val % 128 = r.val; omega)

/-- The 128 columns are the eight column groups' sixteen lanes each. -/
def colSplit : Fin 8 × Fin 16 ≃ Fin 128 where
  toFun p := colOf p.1 p.2
  invFun k := (⟨k.val / 16, by have := k.isLt; omega⟩, ⟨k.val % 16, by omega⟩)
  left_inv p := by
    have := p.2.isLt
    refine Prod.ext (Fin.ext ?_) (Fin.ext ?_)
    · show (16 * p.1.val + p.2.val) / 16 = p.1.val
      omega
    · show (16 * p.1.val + p.2.val) % 16 = p.2.val
      omega
  right_inv k := Fin.ext (by show 16 * (k.val / 16) + k.val % 16 = k.val; omega)

/-- A sum over tasks, lanes, column groups and rows of a task is the sum over all rows and columns. -/
theorem sum_resplit (s : Fin 4096 → Fin 128 → EReal) :
    ∑ w : Fin 32, ∑ l : Fin 16, ∑ c : Fin 8, ∑ n : Fin 128, s (rowOf w n) (colOf c l) = ∑ r : Fin 4096, ∑ k : Fin 128, s r k := by
  rw [← Equiv.sum_comp rowSplit, Fintype.sum_prod_type]
  refine Finset.sum_congr rfl fun w _ => ?_
  have hk : ∀ n : Fin 128, ∑ k : Fin 128, s (rowOf w n) k = ∑ l : Fin 16, ∑ c : Fin 8, s (rowOf w n) (colOf c l) := fun n => by
    rw [← Equiv.sum_comp colSplit, Fintype.sum_prod_type, Finset.sum_comm]
    rfl
  show _ = ∑ n : Fin 128, ∑ k : Fin 128, s (rowOf w n) k
  simp only [hk]
  have hl : ∀ l : Fin 16, ∑ c : Fin 8, ∑ n : Fin 128, s (rowOf w n) (colOf c l) = ∑ n : Fin 128, ∑ c : Fin 8, s (rowOf w n) (colOf c l) :=
    fun l => Finset.sum_comm
  simp only [hl]
  exact Finset.sum_comm

variable (m : (ℓ : Loc nD τ sig) → Buf (Elt Ideal) ℓ) (d : Dev nD)

/-- The squared difference at row `r` and column `k` of a feature and of the center its row's label names. -/
def sqRow (y : IVec S4096 32) (x : FVec Ideal S4096x128 .f32) (z : FVec Ideal S1000x128 .f32) (r : Fin 4096) (k : Fin 128) : EReal :=
  (x (ixF r k) - z (ixC ⟨(y (ixY r)).toNat % 1000, Nat.mod_lt _ (by decide)⟩ k))
    * (x (ixF r k) - z (ixC ⟨(y (ixY r)).toNat % 1000, Nat.mod_lt _ (by decide)⟩ k))

/-- The partial sum at task `w` and lane `l`. -/
theorem partials_apply (w : Fin 32) (l : Fin 16) :
    @Eq EReal (partials (F := Ideal) m d (ix2 w l))
      (∑ c : Fin 8, ∑ n : Fin 128, sqRow (m (yLoc d)) (m (fLoc d)) (m (cLoc d)) (rowOf w n) (colOf c l)) :=
  laneSums_apply (featBlk m d w) (cenBlk m d w) (fun | 0 => l)

/-- The program's result is the double sum of the squared differences, times the constant one half. -/
theorem total_apply (j : S_.Idx) :
    total (F := Ideal) m d j
      = (∑ r : Fin 4096, ∑ k : Fin 128, sqRow (m (yLoc d)) (m (fLoc d)) (m (cLoc d)) r k) * Ideal.ofBits .f32 0x3F000000#32 := by
  unfold total
  rw [mulf_apply, hostReduceAdd_apply, Ideal.hostReduceAdd_total _ (fun b => b.elim0)]
  have hz : ∀ i : S_.Idx, constant (F := Ideal) S_ .f32 0x00000000#32 i = (0 : EReal) := fun _ => Ideal.ofBits_zero_f32
  rw [hz, zero_add]
  refine congrArg₂ (fun a b : EReal => a * b) ?_ rfl
  rw [← sum_resplit]
  refine (sum_idx2 _).trans ?_
  exact Finset.sum_congr rfl fun w _ => Finset.sum_congr rfl fun l _ => partials_apply m d w l

end Cert.Proof.Center

end
-- ==== Proof.Reference.lean ====
/-
  The reference's value. With every label in range the reference's lookup takes, for row `r`, the row of the centers the
  label names: the wrap of negative labels does not apply, the range mask is all ones, and the lookup's clamp changes
  nothing. Its result is then the double sum of the squared differences, divided by two.
-/
module

public import proofs.«01_k».proof.Defs
public import proofs.«01_k».proof.Proof.Gen.ReferenceIdeal
public import Idealize.ShloMosaic.Lib.IdealHost
public import Idealize.ShloMosaic.Lib.ValueIdxRank1
import Idealize.ShloMosaic.Lib.ReduceAll
import Idealize.ShloMosaic.Lib.WordCmp
import Idealize.ShloMosaic.Lib.Pipeline.Value

@[expose] public section

noncomputable section

namespace Cert.Proof.Center.Ref

open Cert.ReferenceIdeal Cert.ReferenceIdeal.Gen
open Idealize.ShloMosaic Idealize.ShloMosaic.ValueIdx
open scoped BigOperators

variable {F : FTy → Type} [FloatOps F]
variable (y : IVec S4096 32) (f : FVec F S4096x128 .f32) (ctr : FVec F S1000x128 .f32)

/-- The row numbers the lookup reads: the labels, 1000 added to the negative ones, as a column. -/
def rowIdx : IVec S4096x1 32 :=
  broadcastInDim S4096x1 ![0] bcast_S4096_S4096x1_0
    (select (cmpi .slt y (broadcastInDim S4096 ![] bcast_S_S4096 (constantI S_ 32 0#32)))
      (addi y (broadcastInDim S4096 ![] bcast_S_S4096 (constantI S_ 32 1000#32))) y)

/-- Which rows' numbers are from 0 to 999. -/
def inRange : IVec S4096 1 :=
  Host.reduce IntOp.andi
    (andi (cmpi .sge (rowIdx y) (broadcastInDim S4096x1 ![] bcast_S_S4096x1 (constantI S_ 32 0#32)))
      (cmpi .sle (rowIdx y) (broadcastInDim S4096x1 ![0, 1] bcast_S1x1_S4096x1_0_1 (broadcastInDim S1x1 ![1] bcast_S1_S1x1_1 (constantI S1 32 999#32)))))
    (constantI S_ 1 1#1) reducesTo_S4096x1_S4096_d1 h_S_

/-- The rows looked up, those out of range replaced. -/
def looked : FVec F S4096x128 .f32 :=
  select (broadcastInDim S4096x128 ![0] bcast_S4096_S4096x128_0 (inRange y))
    (Host.gather gather_S1000x128_S4096x1_S4096x128_1_0_n_n_0_1_1128 ctr (rowIdx y))
    (broadcastInDim S4096x128 ![] bcast_S_S4096x128 (constant S_ .f32 0x7FC00000#32))

/-- The reference's result. -/
def value : FVec F S_ .f32 :=
  Host.divf
    (Host.reduceAdd
      (Host.reduceAdd (mulf (subf f (looked y ctr)) (subf f (looked y ctr))) (constant S_ .f32 0x00000000#32) reducesTo_S4096x128_S4096_d1 h_S_)
      (constant S_ .f32 0x00000000#32) reducesTo_S4096_S_d0 h_S_)
    (constant S_ .f32 0x40000000#32)

/-- Dropping the columns of a 4096 × 128 array leaves one value per row. -/
theorem dropsRows : S4096x128.Reduces [1] S4096 := by decide

/-- A word below 1000 is not negative as a signed number. -/
theorem not_negative (v : BitVec 32) (h : v.toNat < 1000) : IntOp.cmpi .slt v 0#32 = 0#1 := by
  word_cmp

/-- A word below 1000 passes the lookup's range check. -/
theorem within (v : BitVec 32) (h : v.toNat < 1000) : IntOp.andi (IntOp.cmpi .sge v 0#32) (IntOp.cmpi .sle v 999#32) = 1#1 := by
  word_cmp

variable (hy : ∀ j : S4096.Idx, (y j).toNat < 1000)
include hy

omit [FloatOps F] in
/-- The row number read at a row is the row's label. -/
theorem rowIdx_apply (r : Fin 4096) (o : Fin 1) : rowIdx y (ix2 r o) = y (ix1 r) := by
  unfold rowIdx
  refine (broadcastInDim_apply _ bcast_S4096_S4096x1_0 _ (ix2 r o) (ix1 r) (fun a => by obtain rfl : a = 0 := Subsingleton.elim _ _; rfl)).trans ?_
  show Scalar.select (IntOp.cmpi .slt (y (ix1 r)) 0#32) _ (y (ix1 r)) = y (ix1 r)
  rw [not_negative _ (hy _)]
  exact select_zero _ _

/-- Every row's number is in range. -/
theorem inRange_apply (j : S4096.Idx) : inRange y j = 1#1 := by
  unfold inRange
  refine Host.reduce_andi_one _ _ _ _ _ rfl fun i => ?_
  obtain ⟨r, o, rfl⟩ : ∃ (r : Fin 4096) (o : Fin 1), i = ix2 r o := ⟨i 0, i 1, eq_ix2 i⟩
  show IntOp.andi (IntOp.cmpi .sge (rowIdx y (ix2 r o)) 0#32) (IntOp.cmpi .sle (rowIdx y (ix2 r o)) 999#32) = 1#1
  rw [rowIdx_apply y hy]
  exact within _ (hy _)

/-- The lookup at row `r`, column `k` reads the centers at the row the label of `r` names. -/
theorem gather_apply (r : Fin 4096) (k : Fin 128) :
    Host.gather gather_S1000x128_S4096x1_S4096x128_1_0_n_n_0_1_1128 ctr (rowIdx y) (ix2 r k)
      = ctr (ix2 ⟨(y (ix1 r)).toNat % 1000, Nat.mod_lt _ (by decide)⟩ k) := by
  unfold Host.gather
  refine congrArg ctr ?_
  have hsi : gather_S1000x128_S4096x1_S4096x128_1_0_n_n_0_1_1128.siIdx (ix2 r k) ⟨0, Nat.one_pos⟩ = ix2 r (0 : Fin 1) := by
    funext b; refine Fin.ext ?_
    match b with
    | ⟨0, _⟩ => rfl
    | ⟨1, _⟩ => rfl
  have hw := hy (ix1 r)
  funext a; refine Fin.ext ?_
  match a with
  | ⟨0, _⟩ =>
    show min (rowIdx y (gather_S1000x128_S4096x1_S4096x128_1_0_n_n_0_1_1128.siIdx (ix2 r k) ⟨0, Nat.one_pos⟩)).toInt.toNat 999 + 0 + 0
      = (y (ix1 r)).toNat % 1000
    rw [hsi, rowIdx_apply y hy]
    show min (y (ix1 r)).toInt.toNat 999 + 0 + 0 = (y (ix1 r)).toNat % 1000
    rw [BitVec.toInt_eq_toNat_of_lt (by omega), Nat.mod_eq_of_lt hw]
    omega
  | ⟨1, _⟩ =>
    show 0 + 0 + k.val = k.val
    omega

/-- The rows looked up are the rows of the centers the labels name. -/
theorem looked_apply (r : Fin 4096) (k : Fin 128) :
    looked y ctr (ix2 r k) = ctr (ix2 ⟨(y (ix1 r)).toNat % 1000, Nat.mod_lt _ (by decide)⟩ k) := by
  unfold looked
  have hm : broadcastInDim S4096x128 ![0] bcast_S4096_S4096x128_0 (inRange y) (ix2 r k) = 1#1 :=
    (broadcastInDim_apply _ bcast_S4096_S4096x128_0 _ (ix2 r k) (ix1 r) (fun a => by obtain rfl : a = 0 := Subsingleton.elim _ _; rfl)).trans
      (inRange_apply y hy _)
  rw [select_apply, hm, gather_apply y ctr hy]
  exact select_one _ _

/-! ## At exact floats -/

/-- The square, at row `r` and column `k`, of a feature less the feature of the center its row's label names. -/
def sq (y : IVec S4096 32) (f : FVec Ideal S4096x128 .f32) (ctr : FVec Ideal S1000x128 .f32) (r : Fin 4096) (k : Fin 128) : EReal :=
  (f (ix2 r k) - ctr (ix2 ⟨(y (ix1 r)).toNat % 1000, Nat.mod_lt _ (by decide)⟩ k))
    * (f (ix2 r k) - ctr (ix2 ⟨(y (ix1 r)).toNat % 1000, Nat.mod_lt _ (by decide)⟩ k))

/-- The reference's result is the double sum of the squares over two. -/
theorem value_apply (f : FVec Ideal S4096x128 .f32) (ctr : FVec Ideal S1000x128 .f32) (j : S_.Idx) :
    value (F := Ideal) y f ctr j
      = Ideal.div (∑ r : Fin 4096, ∑ k : Fin 128, sq y f ctr r k) (Ideal.ofBits .f32 0x40000000#32) := by
  unfold value
  rw [hostDivf_apply, hostReduceAdd_apply, Ideal.hostReduceAdd_total _ (fun b => b.elim0)]
  simp only [hostReduceAdd_apply, Ideal.hostReduceAdd_single _ dropsRows]
  have hz : ∀ i : S_.Idx, constant (F := Ideal) S_ .f32 0x00000000#32 i = (0 : EReal) := fun _ => Ideal.ofBits_zero_f32
  simp only [hz, zero_add]
  refine congrArg₂ Ideal.div ?_ rfl
  rw [← Equiv.sum_comp (idxEquiv1 (n := 4096)).symm]
  refine Finset.sum_congr rfl fun r _ => Finset.sum_congr rfl fun k _ => ?_
  have hl : dropsRows.lift ((idxEquiv1 (n := 4096)).symm r) k = ix2 r k := by
    funext b
    match b with
    | ⟨0, _⟩ => rfl
    | ⟨1, _⟩ => rfl
  refine (congrArg (mulf (subf f (looked y ctr)) (subf f (looked y ctr))) hl).trans ?_
  have e := looked_apply y ctr hy r k
  show (f (ix2 r k) - looked y ctr (ix2 r k)) * (f (ix2 r k) - looked y ctr (ix2 r k)) = sq y f ctr r k
  rw [e]
  rfl

end Cert.Proof.Center.Ref

end
-- ==== Proof.Equation.lean ====
/-
  The equation. Half a number is that number over two, so the kernel's result and the reference's are one extended real,
  whatever the features and the centers are: infinite sums and undefined differences included.
-/
module

public import proofs.«01_k».proof.Proof.Value
public import proofs.«01_k».proof.Proof.Reference

@[expose] public section

noncomputable section

namespace Cert.Proof.Center

open Cert.KernelIdeal
open Idealize.ShloMosaic
open scoped BigOperators

/-- The pattern the kernel multiplies by is one half. -/
theorem half_bits : Ideal.ofBits .f32 0x3F000000#32 = (((1 : ℝ) / 2 : ℝ) : EReal) := by
  simp [Ideal.ofBits, Ideal.ieee, -EReal.coe_mul]; norm_num

/-- The pattern the reference divides by is two. -/
theorem two_bits : Ideal.ofBits .f32 0x40000000#32 = ((2 : ℝ) : EReal) := by
  simp [Ideal.ofBits, Ideal.ieee, -EReal.coe_mul]; norm_num

/-- A number times one half is that number divided by two. -/
theorem half_eq_div (x : EReal) : x * Ideal.ofBits .f32 0x3F000000#32 = Ideal.div x (Ideal.ofBits .f32 0x40000000#32) := by
  rw [half_bits, two_bits, Ideal.div, if_neg (by norm_cast), ← EReal.coe_inv]
  norm_num

/-- The two programs square the same differences. -/
theorem sqRow_eq_sq (y : IVec S4096 32) (x : FVec Ideal S4096x128 .f32) (z : FVec Ideal S1000x128 .f32) (r : Fin 4096) (k : Fin 128) :
    sqRow y x z r k = Ref.sq y x z r k := by
  have hy : ixY r = ValueIdx.ix1 r := funext fun a => match a with | 0 => rfl
  have hf : ixF r k = ValueIdx.ix2 r k := funext fun a => match a with | 0 => rfl | 1 => rfl
  have hc : ∀ q : Fin 1000, ixC q k = ValueIdx.ix2 q k := fun q => funext fun a => match a with | 0 => rfl | 1 => rfl
  unfold sqRow Ref.sq
  simp only [hf, hc, hy]

variable (m : (ℓ : Loc nD τ sig) → Buf (Elt Ideal) ℓ)

/-- With every label in range, the kernel's result is the reference's of the same arrays. -/
theorem total_eq_value (h : Labels m) (d : Dev nD) :
    total (F := Ideal) m d = Ref.value (F := Ideal) (m (yLoc d)) (m (fLoc d)) (m (cLoc d)) := by
  funext j
  refine ((total_apply m d j).trans (half_eq_div _)).trans (Eq.trans ?_ (Ref.value_apply (m (yLoc d)) (h d) (m (fLoc d)) (m (cLoc d)) j).symm)
  simp only [sqRow_eq_sq]

end Cert.Proof.Center

end
-- ==== Proof.lean ====
/-
  The five claims. The kernel's program ends, whatever its floats are, with its arguments as launched, its semaphores at
  zero and its result at `total`; the reference's program does the same with the value of its own composed term; and at
  the exact instance the two results are equal.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_labels_in_range
public import Idealize.ShloMosaic.Adequacy
public import Idealize.ShloMosaic.Init
public import Idealize.ShloMosaic.Lib.Quiescent
public import proofs.«01_k».proof.Proof.Pre
public import proofs.«01_k».proof.Proof.Run
public import proofs.«01_k».proof.Proof.Equation

@[expose] public section

noncomputable section

namespace Cert.Proof

open Idealize.ShloMosaic Idealize.SL.Sem

/-- The kernel at bit patterns, from any memory whose labels are in range: it ends with its arguments as launched and
    every semaphore at zero. -/
theorem frame_P : Cert.quiescent_Kernel := fun m g h =>
  (θ_run _ _ _).mono (fun _ hr => ⟨fun c => (hr.1 c).2, hr.2⟩)
    (Center.run_main (F := Bits) g m fun d j => Center.label_lt _ _ _ (h d) j)

/-- The same of the kernel at exact floats. -/
theorem frame_PI : Cert.quiescent_KernelIdeal := fun m g h =>
  (θ_run _ _ _).mono (fun _ hr => ⟨fun c => (hr.1 c).2, hr.2⟩)
    (Center.run_main (F := Ideal) g m fun d j => Center.label_lt _ _ _ (h d) j)

/-- The reference at exact floats ends with its arguments as launched; it has no semaphores. -/
theorem frame_RI : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run (F := Ideal) m g)

/-- At exact floats, from memories that agree on the arguments, the kernel and the reference end with equal results. -/
theorem equal_results : Cert.algebraic_KernelIdeal_ReferenceIdeal := fun m g m' g' h hm =>
  have hL : Center.Labels m := fun d j => Center.label_lt _ _ _ (h d) j
  ⟨fun c => Center.total (F := Ideal) m c,
    (θ_run _ _ _).mono (fun _ hr => hr.1) (Center.run_main (F := Ideal) g m hL),
    (θ_run Cert.ReferenceIdeal.defs _ _).mono
      (fun _ hr c => ⟨(hr c).1.trans (by
          have e := hm c
          rw [e.1, e.2.1, e.2.2]
          exact (Center.total_eq_value m hL c).symm), (hr c).2⟩)
      (Cert.ReferenceIdeal.Value.run (F := Ideal) m' g')⟩

/-- The five claims. -/
theorem claim : Cert.Claim := ⟨Cert.Kernel.Gen.facts, Cert.KernelIdeal.Gen.facts, Cert.ReferenceIdeal.Gen.facts, Cert.Pre_labels_in_range.Gen.facts,
  frame_P, frame_PI, frame_RI, trivial, equal_results⟩

end Cert.Proof

end
